-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 2048, 512]⟩ ⟨3, ![2, 2048, 16384]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 16384]⟩ 1 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 2048, 512]⟩ ⟨3, ![2, 2048, 16384]⟩ 2 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x2048x512 : Shape := ⟨3, ![2, 2048, 512]⟩
abbrev S2x128 : Shape := ⟨2, ![2, 128]⟩
abbrev S128x512 : Shape := ⟨2, ![128, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel

variable [Facts]

def fn {F : FTy → Type} [FloatOps F] (main_arg0 : FVec F S2x2048x512 .f32) (main_arg1 : FVec F S2x128 .bf16) (main_arg2 : FVec F S128x512 .bf16) (main_arg3 : FVec F S128x512 .bf16) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  main_v3
-- ==== Pre_finite_ReferenceIdeal.lean ====
abbrev S2x2048x16384 : Shape := ⟨3, ![2, 2048, 16384]⟩
abbrev S2x128 : Shape := ⟨2, ![2, 128]⟩
abbrev S128x16384 : Shape := ⟨2, ![128, 16384]⟩
abbrev S_ : Shape := ⟨0, ![]⟩

class Facts : Prop where
  bcast_S_S2x2048x16384 : S_.BroadcastsInDim S2x2048x16384 (![] : Fin 0 → Fin S2x2048x16384.rank)
  reducesTo_S2x2048x16384_S_d0_1_2 : S2x2048x16384.ReducesTo [0, 1, 2] S_
  h_S_ : 0 < S_.numel

variable [Facts]

def fn {F : FTy → Type} [FloatOps F] (main_arg0 : FVec F S2x2048x16384 .f32) (main_arg1 : FVec F S2x128 .bf16) (main_arg2 : FVec F S128x16384 .bf16) (main_arg3 : FVec F S128x16384 .bf16) : IVec S_ 1 :=
  let main_v0 : FVec F S2x2048x16384 .f32 := Host.absf main_arg0
  let main_cst : FVec F S_ .f32 := constant S_ .f32 0x7F800000#32
  let main_v1 : FVec F S2x2048x16384 .f32 := broadcastInDim S2x2048x16384 ![] bcast_S_S2x2048x16384 main_cst
  let main_v2 : IVec S2x2048x16384 1 := cmpf .olt main_v0 main_v1
  let main_c : IVec S_ 1 := constantI S_ 1 1#1
  let main_v3 : IVec S_ 1 := (fun x v => Host.reduce IntOp.andi x v reducesTo_S2x2048x16384_S_d0_1_2 h_S_) main_v2 main_c
  main_v3
-- ==== Kernel.lean ====
abbrev S2x2048x512 : Shape := ⟨3, ![2, 2048, 512]⟩
abbrev S2x128 : Shape := ⟨2, ![2, 128]⟩
abbrev S128x512 : Shape := ⟨2, ![128, 512]⟩
abbrev S4x2048 : Shape := ⟨2, ![4, 2048]⟩
abbrev S4x4x2048 : Shape := ⟨3, ![4, 4, 2048]⟩
abbrev S4 : Shape := ⟨1, ![4]⟩
abbrev S2 : Shape := ⟨1, ![2]⟩
abbrev S2x4 : Shape := ⟨2, ![2, 4]⟩
abbrev S_ : Shape := ⟨0, ![]⟩
abbrev S1 : Shape := ⟨1, ![1]⟩
abbrev S2x512x512 : Shape := ⟨3, ![2, 512, 512]⟩
abbrev S2x512 : Shape := ⟨2, ![2, 512]⟩
abbrev S4x512 : Shape := ⟨2, ![4, 512]⟩
abbrev S4x1024 : Shape := ⟨2, ![4, 1024]⟩
abbrev S1x1 : Shape := ⟨2, ![1, 1]⟩
abbrev S1x4x1024 : Shape := ⟨3, ![1, 4, 1024]⟩
abbrev S4x4x1024 : Shape := ⟨3, ![4, 4, 1024]⟩
abbrev S2x1024 : Shape := ⟨2, ![2, 1024]⟩
abbrev S2x1024x512 : Shape := ⟨3, ![2, 1024, 512]⟩
abbrev S2x1024x1 : Shape := ⟨3, ![2, 1024, 1]⟩
abbrev S2x1x512 : Shape := ⟨3, ![2, 1, 512]⟩

abbrev nBuf : Space → Nat
  | .hbm => 5
  | .vmem => 11
  | .smem => 0
  | _ => 0

abbrev bufTy : (tb : Table) → Fin (tcTables nBuf tb) → BufTy
  | .hbm, ⟨0, _⟩ => ⟨S2x2048x512, .f32⟩
  | .hbm, ⟨1, _⟩ => ⟨S2x128, .bf16⟩
  | .hbm, ⟨2, _⟩ => ⟨S128x512, .bf16⟩
  | .hbm, ⟨3, _⟩ => ⟨S128x512, .bf16⟩
  | .hbm, ⟨4, _⟩ => ⟨S2x2048x512, .bf16⟩
  | .local _ .vmem, ⟨0, _⟩ => ⟨S2x128, .bf16⟩
  | .local _ .vmem, ⟨1, _⟩ => ⟨S128x512, .bf16⟩
  | .local _ .vmem, ⟨2, _⟩ => ⟨S128x512, .bf16⟩
  | .local _ .vmem, ⟨3, _⟩ => ⟨S2x2048x512, .bf16⟩
  | .local _ .vmem, ⟨4, _⟩ => ⟨S2x2048x512, .f32⟩
  | .local _ .vmem, ⟨5, _⟩ => ⟨S4x2048, .f32⟩
  | .local _ .vmem, ⟨6, _⟩ => ⟨S4x2048, .f32⟩
  | .local _ .vmem, ⟨7, _⟩ => ⟨S4x2048, .f32⟩
  | .local _ .vmem, ⟨8, _⟩ => ⟨S4x2048, .f32⟩
  | .local _ .vmem, ⟨9, _⟩ => ⟨S4x4x2048, .f32⟩
  | .local _ .vmem, ⟨10, _⟩ => ⟨S4x4x2048, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_49 : BitVec 32 := 0#32
  let c8_i32_16 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v44 : BitVec 32 := Scalar.muli c8_i32_16 v19
  let c8_i32_5 : BitVec 32 := 8#32
  let v20 : BitVec 32 := Scalar.muli c8_i32_5 v19
  let v21 : BitVec 32 := Scalar.subi v2 v20
  let c1_i32_17 : BitVec 32 := 1#32
  let v45 : BitVec 32 := Scalar.addi v21 c1_i32_17
  let c2_i32_18 : BitVec 32 := 2#32
  let c2_i32_12 : BitVec 32 := 2#32
  let v39 : BitVec 32 := Scalar.remsi v21 c2_i32_12
  let v46 : BitVec 32 := Scalar.muli c2_i32_18 v39
  let v47 : BitVec 32 := Scalar.subi v45 v46
  let v48 : BitVec 32 := Scalar.addi v44 v47
  let c1_i32_48 : BitVec 32 := 1#32
  let v92 : BitVec 32 := Scalar.muli v48 c1_i32_48
  let v93 : BitVec 32 := Scalar.addi c0_i32_49 v92
  v93.toNat
def k0_dev2 (d0 : Dev nD) : Nat :=
  let c0_i32_52 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c8_i32_24 v19
  let c2_i32_20 : BitVec 32 := 2#32
  let c8_i32_5 : BitVec 32 := 8#32
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c1_i32_19 : BitVec 32 := 1#32
  let v49 : BitVec 32 := Scalar.addi v38 c1_i32_19
  let c4_i32 : BitVec 32 := 4#32
  let v50 : BitVec 32 := Scalar.remsi v49 c4_i32
  let v51 : BitVec 32 := Scalar.muli c2_i32_20 v50
  let c2_i32_21 : BitVec 32 := 2#32
  let v52 : BitVec 32 := Scalar.remsi v50 c2_i32_21
  let c1_i32_22 : BitVec 32 := 1#32
  let v53 : BitVec 1 := Scalar.cmpi .eq v52 c1_i32_22
  let c1_i32_23 : BitVec 32 := 1#32
  let c2_i32_13 : BitVec 32 := 2#32
  let v40 : BitVec 32 := Scalar.remsi v38 c2_i32_13
  let c1_i32_14 : BitVec 32 := 1#32
  let v41 : BitVec 1 := Scalar.cmpi .eq v40 c1_i32_14
  let c1_i32_15 : BitVec 32 := 1#32
  let c2_i32_12 : BitVec 32 := 2#32
  let v39 : BitVec 32 := Scalar.remsi v21 c2_i32_12
  let v42 : BitVec 32 := Scalar.subi c1_i32_15 v39
  let v43 : BitVec 32 := Scalar.select v41 v42 v39
  let v54 : BitVec 32 := Scalar.subi c1_i32_23 v43
  let v55 : BitVec 32 := Scalar.select v53 v54 v43
  let v56 : BitVec 32 := Scalar.addi v51 v55
  let v58 : BitVec 32 := Scalar.addi v57 v56
  let c1_i32_51 : BitVec 32 := 1#32
  let v94 : BitVec 32 := Scalar.muli v58 c1_i32_51
  let v95 : BitVec 32 := Scalar.addi c0_i32_52 v94
  v95.toNat
def k0_dev3 (d0 : Dev nD) : Nat :=
  let c0_i32_55 : BitVec 32 := 0#32
  let c8_i32_31 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v67 : BitVec 32 := Scalar.muli c8_i32_31 v19
  let c2_i32_27 : BitVec 32 := 2#32
  let c8_i32_5 : BitVec 32 := 8#32
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_25 : BitVec 32 := 2#32
  let v59 : BitVec 32 := Scalar.addi v38 c2_i32_25
  let c4_i32_26 : BitVec 32 := 4#32
  let v60 : BitVec 32 := Scalar.remsi v59 c4_i32_26
  let v61 : BitVec 32 := Scalar.muli c2_i32_27 v60
  let c2_i32_28 : BitVec 32 := 2#32
  let v62 : BitVec 32 := Scalar.remsi v60 c2_i32_28
  let c1_i32_29 : BitVec 32 := 1#32
  let v63 : BitVec 1 := Scalar.cmpi .eq v62 c1_i32_29
  let c1_i32_30 : BitVec 32 := 1#32
  let c2_i32_13 : BitVec 32 := 2#32
  let v40 : BitVec 32 := Scalar.remsi v38 c2_i32_13
  let c1_i32_14 : BitVec 32 := 1#32
  let v41 : BitVec 1 := Scalar.cmpi .eq v40 c1_i32_14
  let c1_i32_15 : BitVec 32 := 1#32
  let c2_i32_12 : BitVec 32 := 2#32
  let v39 : BitVec 32 := Scalar.remsi v21 c2_i32_12
  let v42 : BitVec 32 := Scalar.subi c1_i32_15 v39
  let v43 : BitVec 32 := Scalar.select v41 v42 v39
  let v64 : BitVec 32 := Scalar.subi c1_i32_30 v43
  let v65 : BitVec 32 := Scalar.select v63 v64 v43
  let v66 : BitVec 32 := Scalar.addi v61 v65
  let v68 : BitVec 32 := Scalar.addi v67 v66
  let c1_i32_54 : BitVec 32 := 1#32
  let v96 : BitVec 32 := Scalar.muli v68 c1_i32_54
  let v97 : BitVec 32 := Scalar.addi c0_i32_55 v96
  v97.toNat
def k0_dev4 (d0 : Dev nD) : Nat :=
  let c0_i32_58 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v77 : BitVec 32 := Scalar.muli c8_i32_37 v19
  let c2_i32_33 : BitVec 32 := 2#32
  let c8_i32_5 : BitVec 32 := 8#32
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c3_i32 : BitVec 32 := 3#32
  let v69 : BitVec 32 := Scalar.addi v38 c3_i32
  let c4_i32_32 : BitVec 32 := 4#32
  let v70 : BitVec 32 := Scalar.remsi v69 c4_i32_32
  let v71 : BitVec 32 := Scalar.muli c2_i32_33 v70
  let c2_i32_34 : BitVec 32 := 2#32
  let v72 : BitVec 32 := Scalar.remsi v70 c2_i32_34
  let c1_i32_35 : BitVec 32 := 1#32
  let v73 : BitVec 1 := Scalar.cmpi .eq v72 c1_i32_35
  let c1_i32_36 : BitVec 32 := 1#32
  let c2_i32_13 : BitVec 32 := 2#32
  let v40 : BitVec 32 := Scalar.remsi v38 c2_i32_13
  let c1_i32_14 : BitVec 32 := 1#32
  let v41 : BitVec 1 := Scalar.cmpi .eq v40 c1_i32_14
  let c1_i32_15 : BitVec 32 := 1#32
  let c2_i32_12 : BitVec 32 := 2#32
  let v39 : BitVec 32 := Scalar.remsi v21 c2_i32_12
  let v42 : BitVec 32 := Scalar.subi c1_i32_15 v39
  let v43 : BitVec 32 := Scalar.select v41 v42 v39
  let v74 : BitVec 32 := Scalar.subi c1_i32_36 v43
  let v75 : BitVec 32 := Scalar.select v73 v74 v43
  let v76 : BitVec 32 := Scalar.addi v71 v75
  let v78 : BitVec 32 := Scalar.addi v77 v76
  let c1_i32_57 : BitVec 32 := 1#32
  let v98 : BitVec 32 := Scalar.muli v78 c1_i32_57
  let v99 : BitVec 32 := Scalar.addi c0_i32_58 v98
  v99.toNat
def k0_dev5 (d0 : Dev nD) : Nat :=
  let c0_i32_61 : BitVec 32 := 0#32
  let c8_i32_40 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_38 : BitVec 32 := 1#32
  let v79 : BitVec 32 := Scalar.addi v19 c1_i32_38
  let c4_i32_39 : BitVec 32 := 4#32
  let v80 : BitVec 32 := Scalar.remsi v79 c4_i32_39
  let v81 : BitVec 32 := Scalar.muli c8_i32_40 v80
  let c8_i32_5 : BitVec 32 := 8#32
  let v20 : BitVec 32 := Scalar.muli c8_i32_5 v19
  let v21 : BitVec 32 := Scalar.subi v2 v20
  let v82 : BitVec 32 := Scalar.addi v81 v21
  let c1_i32_60 : BitVec 32 := 1#32
  let v100 : BitVec 32 := Scalar.muli v82 c1_i32_60
  let v101 : BitVec 32 := Scalar.addi c0_i32_61 v100
  v101.toNat
def k0_dev6 (d0 : Dev nD) : Nat :=
  let c0_i32_64 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_41 : BitVec 32 := 2#32
  let v83 : BitVec 32 := Scalar.addi v19 c2_i32_41
  let c4_i32_42 : BitVec 32 := 4#32
  let v84 : BitVec 32 := Scalar.remsi v83 c4_i32_42
  let v85 : BitVec 32 := Scalar.muli c8_i32_43 v84
  let c8_i32_5 : BitVec 32 := 8#32
  let v20 : BitVec 32 := Scalar.muli c8_i32_5 v19
  let v21 : BitVec 32 := Scalar.subi v2 v20
  let v86 : BitVec 32 := Scalar.addi v85 v21
  let c1_i32_63 : BitVec 32 := 1#32
  let v102 : BitVec 32 := Scalar.muli v86 c1_i32_63
  let v103 : BitVec 32 := Scalar.addi c0_i32_64 v102
  v103.toNat
def k0_dev7 (d0 : Dev nD) : Nat :=
  let c0_i32_67 : BitVec 32 := 0#32
  let c8_i32_46 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_44 : BitVec 32 := 3#32
  let v87 : BitVec 32 := Scalar.addi v19 c3_i32_44
  let c4_i32_45 : BitVec 32 := 4#32
  let v88 : BitVec 32 := Scalar.remsi v87 c4_i32_45
  let v89 : BitVec 32 := Scalar.muli c8_i32_46 v88
  let c8_i32_5 : BitVec 32 := 8#32
  let v20 : BitVec 32 := Scalar.muli c8_i32_5 v19
  let v21 : BitVec 32 := Scalar.subi v2 v20
  let v90 : BitVec 32 := Scalar.addi v89 v21
  let c1_i32_66 : BitVec 32 := 1#32
  let v104 : BitVec 32 := Scalar.muli v90 c1_i32_66
  let v105 : BitVec 32 := Scalar.addi c0_i32_67 v104
  v105.toNat
def k0_dev8 (d0 : Dev nD) : Nat :=
  let c0_i32_130 : BitVec 32 := 0#32
  let c8_i32_16 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v44 : BitVec 32 := Scalar.muli c8_i32_16 v19
  let c8_i32_5 : BitVec 32 := 8#32
  let v20 : BitVec 32 := Scalar.muli c8_i32_5 v19
  let v21 : BitVec 32 := Scalar.subi v2 v20
  let c1_i32_17 : BitVec 32 := 1#32
  let v45 : BitVec 32 := Scalar.addi v21 c1_i32_17
  let c2_i32_18 : BitVec 32 := 2#32
  let c2_i32_12 : BitVec 32 := 2#32
  let v39 : BitVec 32 := Scalar.remsi v21 c2_i32_12
  let v46 : BitVec 32 := Scalar.muli c2_i32_18 v39
  let v47 : BitVec 32 := Scalar.subi v45 v46
  let v48 : BitVec 32 := Scalar.addi v44 v47
  let c1_i32_129 : BitVec 32 := 1#32
  let v156 : BitVec 32 := Scalar.muli v48 c1_i32_129
  let v157 : BitVec 32 := Scalar.addi c0_i32_130 v156
  v157.toNat
def k0_dev9 (d0 : Dev nD) : Nat :=
  let c0_i32_164 : BitVec 32 := 0#32
  let c8_i32_16 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v44 : BitVec 32 := Scalar.muli c8_i32_16 v19
  let c8_i32_5 : BitVec 32 := 8#32
  let v20 : BitVec 32 := Scalar.muli c8_i32_5 v19
  let v21 : BitVec 32 := Scalar.subi v2 v20
  let c1_i32_17 : BitVec 32 := 1#32
  let v45 : BitVec 32 := Scalar.addi v21 c1_i32_17
  let c2_i32_18 : BitVec 32 := 2#32
  let c2_i32_12 : BitVec 32 := 2#32
  let v39 : BitVec 32 := Scalar.remsi v21 c2_i32_12
  let v46 : BitVec 32 := Scalar.muli c2_i32_18 v39
  let v47 : BitVec 32 := Scalar.subi v45 v46
  let v48 : BitVec 32 := Scalar.addi v44 v47
  let c1_i32_163 : BitVec 32 := 1#32
  let v188 : BitVec 32 := Scalar.muli v48 c1_i32_163
  let v189 : BitVec 32 := Scalar.addi c0_i32_164 v188
  v189.toNat
def k0_off1 (d0 : Dev nD) : Fin 2 → Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  ![0, v38.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c0_i32_188 : BitVec 32 := 0#32
  let c0_i32_189 : BitVec 32 := 0#32
  ![v38.toNat, 0, 0]
def k0_dev10 (d0 : Dev nD) : Nat :=
  let c0_i32_187 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c8_i32_24 v19
  let c2_i32_20 : BitVec 32 := 2#32
  let c8_i32_5 : BitVec 32 := 8#32
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c1_i32_19 : BitVec 32 := 1#32
  let v49 : BitVec 32 := Scalar.addi v38 c1_i32_19
  let c4_i32 : BitVec 32 := 4#32
  let v50 : BitVec 32 := Scalar.remsi v49 c4_i32
  let v51 : BitVec 32 := Scalar.muli c2_i32_20 v50
  let c2_i32_21 : BitVec 32 := 2#32
  let v52 : BitVec 32 := Scalar.remsi v50 c2_i32_21
  let c1_i32_22 : BitVec 32 := 1#32
  let v53 : BitVec 1 := Scalar.cmpi .eq v52 c1_i32_22
  let c1_i32_23 : BitVec 32 := 1#32
  let c2_i32_13 : BitVec 32 := 2#32
  let v40 : BitVec 32 := Scalar.remsi v38 c2_i32_13
  let c1_i32_14 : BitVec 32 := 1#32
  let v41 : BitVec 1 := Scalar.cmpi .eq v40 c1_i32_14
  let c1_i32_15 : BitVec 32 := 1#32
  let c2_i32_12 : BitVec 32 := 2#32
  let v39 : BitVec 32 := Scalar.remsi v21 c2_i32_12
  let v42 : BitVec 32 := Scalar.subi c1_i32_15 v39
  let v43 : BitVec 32 := Scalar.select v41 v42 v39
  let v54 : BitVec 32 := Scalar.subi c1_i32_23 v43
  let v55 : BitVec 32 := Scalar.select v53 v54 v43
  let v56 : BitVec 32 := Scalar.addi v51 v55
  let v58 : BitVec 32 := Scalar.addi v57 v56
  let c1_i32_186 : BitVec 32 := 1#32
  let v208 : BitVec 32 := Scalar.muli v58 c1_i32_186
  let v209 : BitVec 32 := Scalar.addi c0_i32_187 v208
  v209.toNat
def k0_dev11 (d0 : Dev nD) : Nat :=
  let c0_i32_196 : BitVec 32 := 0#32
  let c8_i32_31 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v67 : BitVec 32 := Scalar.muli c8_i32_31 v19
  let c2_i32_27 : BitVec 32 := 2#32
  let c8_i32_5 : BitVec 32 := 8#32
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_25 : BitVec 32 := 2#32
  let v59 : BitVec 32 := Scalar.addi v38 c2_i32_25
  let c4_i32_26 : BitVec 32 := 4#32
  let v60 : BitVec 32 := Scalar.remsi v59 c4_i32_26
  let v61 : BitVec 32 := Scalar.muli c2_i32_27 v60
  let c2_i32_28 : BitVec 32 := 2#32
  let v62 : BitVec 32 := Scalar.remsi v60 c2_i32_28
  let c1_i32_29 : BitVec 32 := 1#32
  let v63 : BitVec 1 := Scalar.cmpi .eq v62 c1_i32_29
  let c1_i32_30 : BitVec 32 := 1#32
  let c2_i32_13 : BitVec 32 := 2#32
  let v40 : BitVec 32 := Scalar.remsi v38 c2_i32_13
  let c1_i32_14 : BitVec 32 := 1#32
  let v41 : BitVec 1 := Scalar.cmpi .eq v40 c1_i32_14
  let c1_i32_15 : BitVec 32 := 1#32
  let c2_i32_12 : BitVec 32 := 2#32
  let v39 : BitVec 32 := Scalar.remsi v21 c2_i32_12
  let v42 : BitVec 32 := Scalar.subi c1_i32_15 v39
  let v43 : BitVec 32 := Scalar.select v41 v42 v39
  let v64 : BitVec 32 := Scalar.subi c1_i32_30 v43
  let v65 : BitVec 32 := Scalar.select v63 v64 v43
  let v66 : BitVec 32 := Scalar.addi v61 v65
  let v68 : BitVec 32 := Scalar.addi v67 v66
  let c1_i32_195 : BitVec 32 := 1#32
  let v217 : BitVec 32 := Scalar.muli v68 c1_i32_195
  let v218 : BitVec 32 := Scalar.addi c0_i32_196 v217
  v218.toNat
def k0_dev12 (d0 : Dev nD) : Nat :=
  let c0_i32_205 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v77 : BitVec 32 := Scalar.muli c8_i32_37 v19
  let c2_i32_33 : BitVec 32 := 2#32
  let c8_i32_5 : BitVec 32 := 8#32
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c3_i32 : BitVec 32 := 3#32
  let v69 : BitVec 32 := Scalar.addi v38 c3_i32
  let c4_i32_32 : BitVec 32 := 4#32
  let v70 : BitVec 32 := Scalar.remsi v69 c4_i32_32
  let v71 : BitVec 32 := Scalar.muli c2_i32_33 v70
  let c2_i32_34 : BitVec 32 := 2#32
  let v72 : BitVec 32 := Scalar.remsi v70 c2_i32_34
  let c1_i32_35 : BitVec 32 := 1#32
  let v73 : BitVec 1 := Scalar.cmpi .eq v72 c1_i32_35
  let c1_i32_36 : BitVec 32 := 1#32
  let c2_i32_13 : BitVec 32 := 2#32
  let v40 : BitVec 32 := Scalar.remsi v38 c2_i32_13
  let c1_i32_14 : BitVec 32 := 1#32
  let v41 : BitVec 1 := Scalar.cmpi .eq v40 c1_i32_14
  let c1_i32_15 : BitVec 32 := 1#32
  let c2_i32_12 : BitVec 32 := 2#32
  let v39 : BitVec 32 := Scalar.remsi v21 c2_i32_12
  let v42 : BitVec 32 := Scalar.subi c1_i32_15 v39
  let v43 : BitVec 32 := Scalar.select v41 v42 v39
  let v74 : BitVec 32 := Scalar.subi c1_i32_36 v43
  let v75 : BitVec 32 := Scalar.select v73 v74 v43
  let v76 : BitVec 32 := Scalar.addi v71 v75
  let v78 : BitVec 32 := Scalar.addi v77 v76
  let c1_i32_204 : BitVec 32 := 1#32
  let v226 : BitVec 32 := Scalar.muli v78 c1_i32_204
  let v227 : BitVec 32 := Scalar.addi c0_i32_205 v226
  v227.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v237 : Index := Scalar.indexCast v38
  let c0_212 : Index := 0#32
  let c0_213 : Index := 0#32
  ![v237.toNat, 0, 0]
def k0_off4 (d0 : Dev nD) : Fin 2 → Nat :=
  let c1_i32_228 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  ![1, v38.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c0_i32_233 : BitVec 32 := 0#32
  let c1024_i32_234 : BitVec 32 := 1024#32
  ![v38.toNat, 0, 1024]
def k0_dev13 (d0 : Dev nD) : Nat :=
  let c0_i32_232 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v57 : BitVec 32 := Scalar.muli c8_i32_24 v19
  let c2_i32_20 : BitVec 32 := 2#32
  let c8_i32_5 : BitVec 32 := 8#32
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c1_i32_19 : BitVec 32 := 1#32
  let v49 : BitVec 32 := Scalar.addi v38 c1_i32_19
  let c4_i32 : BitVec 32 := 4#32
  let v50 : BitVec 32 := Scalar.remsi v49 c4_i32
  let v51 : BitVec 32 := Scalar.muli c2_i32_20 v50
  let c2_i32_21 : BitVec 32 := 2#32
  let v52 : BitVec 32 := Scalar.remsi v50 c2_i32_21
  let c1_i32_22 : BitVec 32 := 1#32
  let v53 : BitVec 1 := Scalar.cmpi .eq v52 c1_i32_22
  let c1_i32_23 : BitVec 32 := 1#32
  let c2_i32_13 : BitVec 32 := 2#32
  let v40 : BitVec 32 := Scalar.remsi v38 c2_i32_13
  let c1_i32_14 : BitVec 32 := 1#32
  let v41 : BitVec 1 := Scalar.cmpi .eq v40 c1_i32_14
  let c1_i32_15 : BitVec 32 := 1#32
  let c2_i32_12 : BitVec 32 := 2#32
  let v39 : BitVec 32 := Scalar.remsi v21 c2_i32_12
  let v42 : BitVec 32 := Scalar.subi c1_i32_15 v39
  let v43 : BitVec 32 := Scalar.select v41 v42 v39
  let v54 : BitVec 32 := Scalar.subi c1_i32_23 v43
  let v55 : BitVec 32 := Scalar.select v53 v54 v43
  let v56 : BitVec 32 := Scalar.addi v51 v55
  let v58 : BitVec 32 := Scalar.addi v57 v56
  let c1_i32_231 : BitVec 32 := 1#32
  let v253 : BitVec 32 := Scalar.muli v58 c1_i32_231
  let v254 : BitVec 32 := Scalar.addi c0_i32_232 v253
  v254.toNat
def k0_dev14 (d0 : Dev nD) : Nat :=
  let c0_i32_241 : BitVec 32 := 0#32
  let c8_i32_31 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v67 : BitVec 32 := Scalar.muli c8_i32_31 v19
  let c2_i32_27 : BitVec 32 := 2#32
  let c8_i32_5 : BitVec 32 := 8#32
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_25 : BitVec 32 := 2#32
  let v59 : BitVec 32 := Scalar.addi v38 c2_i32_25
  let c4_i32_26 : BitVec 32 := 4#32
  let v60 : BitVec 32 := Scalar.remsi v59 c4_i32_26
  let v61 : BitVec 32 := Scalar.muli c2_i32_27 v60
  let c2_i32_28 : BitVec 32 := 2#32
  let v62 : BitVec 32 := Scalar.remsi v60 c2_i32_28
  let c1_i32_29 : BitVec 32 := 1#32
  let v63 : BitVec 1 := Scalar.cmpi .eq v62 c1_i32_29
  let c1_i32_30 : BitVec 32 := 1#32
  let c2_i32_13 : BitVec 32 := 2#32
  let v40 : BitVec 32 := Scalar.remsi v38 c2_i32_13
  let c1_i32_14 : BitVec 32 := 1#32
  let v41 : BitVec 1 := Scalar.cmpi .eq v40 c1_i32_14
  let c1_i32_15 : BitVec 32 := 1#32
  let c2_i32_12 : BitVec 32 := 2#32
  let v39 : BitVec 32 := Scalar.remsi v21 c2_i32_12
  let v42 : BitVec 32 := Scalar.subi c1_i32_15 v39
  let v43 : BitVec 32 := Scalar.select v41 v42 v39
  let v64 : BitVec 32 := Scalar.subi c1_i32_30 v43
  let v65 : BitVec 32 := Scalar.select v63 v64 v43
  let v66 : BitVec 32 := Scalar.addi v61 v65
  let v68 : BitVec 32 := Scalar.addi v67 v66
  let c1_i32_240 : BitVec 32 := 1#32
  let v262 : BitVec 32 := Scalar.muli v68 c1_i32_240
  let v263 : BitVec 32 := Scalar.addi c0_i32_241 v262
  v263.toNat
def k0_dev15 (d0 : Dev nD) : Nat :=
  let c0_i32_250 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v77 : BitVec 32 := Scalar.muli c8_i32_37 v19
  let c2_i32_33 : BitVec 32 := 2#32
  let c8_i32_5 : BitVec 32 := 8#32
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c3_i32 : BitVec 32 := 3#32
  let v69 : BitVec 32 := Scalar.addi v38 c3_i32
  let c4_i32_32 : BitVec 32 := 4#32
  let v70 : BitVec 32 := Scalar.remsi v69 c4_i32_32
  let v71 : BitVec 32 := Scalar.muli c2_i32_33 v70
  let c2_i32_34 : BitVec 32 := 2#32
  let v72 : BitVec 32 := Scalar.remsi v70 c2_i32_34
  let c1_i32_35 : BitVec 32 := 1#32
  let v73 : BitVec 1 := Scalar.cmpi .eq v72 c1_i32_35
  let c1_i32_36 : BitVec 32 := 1#32
  let c2_i32_13 : BitVec 32 := 2#32
  let v40 : BitVec 32 := Scalar.remsi v38 c2_i32_13
  let c1_i32_14 : BitVec 32 := 1#32
  let v41 : BitVec 1 := Scalar.cmpi .eq v40 c1_i32_14
  let c1_i32_15 : BitVec 32 := 1#32
  let c2_i32_12 : BitVec 32 := 2#32
  let v39 : BitVec 32 := Scalar.remsi v21 c2_i32_12
  let v42 : BitVec 32 := Scalar.subi c1_i32_15 v39
  let v43 : BitVec 32 := Scalar.select v41 v42 v39
  let v74 : BitVec 32 := Scalar.subi c1_i32_36 v43
  let v75 : BitVec 32 := Scalar.select v73 v74 v43
  let v76 : BitVec 32 := Scalar.addi v71 v75
  let v78 : BitVec 32 := Scalar.addi v77 v76
  let c1_i32_249 : BitVec 32 := 1#32
  let v271 : BitVec 32 := Scalar.muli v78 c1_i32_249
  let v272 : BitVec 32 := Scalar.addi c0_i32_250 v271
  v272.toNat
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v282 : Index := Scalar.indexCast v38
  let c0_257 : Index := 0#32
  let c1024_258 : Index := 1024#32
  ![v282.toNat, 0, 1024]
def k0_off7 (d0 : Dev nD) (c1_i32_259 : BitVec 32) : Fin 2 → Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v286 : BitVec 32 := Scalar.addi v38 c1_i32_259
  let c4_i32_260 : BitVec 32 := 4#32
  let v287 : BitVec 32 := Scalar.remsi v286 c4_i32_260
  ![0, v287.toNat]
def k0_off8 (d0 : Dev nD) (c1_i32_259 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v286 : BitVec 32 := Scalar.addi v38 c1_i32_259
  let c4_i32_260 : BitVec 32 := 4#32
  let v287 : BitVec 32 := Scalar.remsi v286 c4_i32_260
  let c0_i32_266 : BitVec 32 := 0#32
  let c0_i32_267 : BitVec 32 := 0#32
  ![v287.toNat, 0, 0]
def k0_off9 (d0 : Dev nD) : Fin 2 → Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![0, v19.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_303 : BitVec 32 := 0#32
  let c0_i32_304 : BitVec 32 := 0#32
  ![v19.toNat, 0, 0]
def k0_dev16 (d0 : Dev nD) : Nat :=
  let c0_i32_302 : BitVec 32 := 0#32
  let c8_i32_40 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_38 : BitVec 32 := 1#32
  let v79 : BitVec 32 := Scalar.addi v19 c1_i32_38
  let c4_i32_39 : BitVec 32 := 4#32
  let v80 : BitVec 32 := Scalar.remsi v79 c4_i32_39
  let v81 : BitVec 32 := Scalar.muli c8_i32_40 v80
  let c8_i32_5 : BitVec 32 := 8#32
  let v20 : BitVec 32 := Scalar.muli c8_i32_5 v19
  let v21 : BitVec 32 := Scalar.subi v2 v20
  let v82 : BitVec 32 := Scalar.addi v81 v21
  let c1_i32_301 : BitVec 32 := 1#32
  let v318 : BitVec 32 := Scalar.muli v82 c1_i32_301
  let v319 : BitVec 32 := Scalar.addi c0_i32_302 v318
  v319.toNat
def k0_dev17 (d0 : Dev nD) : Nat :=
  let c0_i32_311 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_41 : BitVec 32 := 2#32
  let v83 : BitVec 32 := Scalar.addi v19 c2_i32_41
  let c4_i32_42 : BitVec 32 := 4#32
  let v84 : BitVec 32 := Scalar.remsi v83 c4_i32_42
  let v85 : BitVec 32 := Scalar.muli c8_i32_43 v84
  let c8_i32_5 : BitVec 32 := 8#32
  let v20 : BitVec 32 := Scalar.muli c8_i32_5 v19
  let v21 : BitVec 32 := Scalar.subi v2 v20
  let v86 : BitVec 32 := Scalar.addi v85 v21
  let c1_i32_310 : BitVec 32 := 1#32
  let v327 : BitVec 32 := Scalar.muli v86 c1_i32_310
  let v328 : BitVec 32 := Scalar.addi c0_i32_311 v327
  v328.toNat
def k0_dev18 (d0 : Dev nD) : Nat :=
  let c0_i32_320 : BitVec 32 := 0#32
  let c8_i32_46 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_44 : BitVec 32 := 3#32
  let v87 : BitVec 32 := Scalar.addi v19 c3_i32_44
  let c4_i32_45 : BitVec 32 := 4#32
  let v88 : BitVec 32 := Scalar.remsi v87 c4_i32_45
  let v89 : BitVec 32 := Scalar.muli c8_i32_46 v88
  let c8_i32_5 : BitVec 32 := 8#32
  let v20 : BitVec 32 := Scalar.muli c8_i32_5 v19
  let v21 : BitVec 32 := Scalar.subi v2 v20
  let v90 : BitVec 32 := Scalar.addi v89 v21
  let c1_i32_319 : BitVec 32 := 1#32
  let v336 : BitVec 32 := Scalar.muli v90 c1_i32_319
  let v337 : BitVec 32 := Scalar.addi c0_i32_320 v336
  v337.toNat
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v347 : Index := Scalar.indexCast v19
  let c0_327 : Index := 0#32
  let c0_328 : Index := 0#32
  ![v347.toNat, 0, 0]
def k0_off12 (d0 : Dev nD) (c1_i32_329 : BitVec 32) : Fin 2 → Nat :=
  let c1_i32_331 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v351 : BitVec 32 := Scalar.addi v38 c1_i32_329
  let c4_i32_330 : BitVec 32 := 4#32
  let v352 : BitVec 32 := Scalar.remsi v351 c4_i32_330
  ![1, v352.toNat]
def k0_off13 (d0 : Dev nD) (c1_i32_329 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v351 : BitVec 32 := Scalar.addi v38 c1_i32_329
  let c4_i32_330 : BitVec 32 := 4#32
  let v352 : BitVec 32 := Scalar.remsi v351 c4_i32_330
  let c0_i32_336 : BitVec 32 := 0#32
  let c1024_i32_337 : BitVec 32 := 1024#32
  ![v352.toNat, 0, 1024]
def k0_off14 (d0 : Dev nD) : Fin 2 → Nat :=
  let c1_i32_368 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![1, v19.toNat]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_373 : BitVec 32 := 0#32
  let c1024_i32_374 : BitVec 32 := 1024#32
  ![v19.toNat, 0, 1024]
def k0_dev19 (d0 : Dev nD) : Nat :=
  let c0_i32_372 : BitVec 32 := 0#32
  let c8_i32_40 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_38 : BitVec 32 := 1#32
  let v79 : BitVec 32 := Scalar.addi v19 c1_i32_38
  let c4_i32_39 : BitVec 32 := 4#32
  let v80 : BitVec 32 := Scalar.remsi v79 c4_i32_39
  let v81 : BitVec 32 := Scalar.muli c8_i32_40 v80
  let c8_i32_5 : BitVec 32 := 8#32
  let v20 : BitVec 32 := Scalar.muli c8_i32_5 v19
  let v21 : BitVec 32 := Scalar.subi v2 v20
  let v82 : BitVec 32 := Scalar.addi v81 v21
  let c1_i32_371 : BitVec 32 := 1#32
  let v383 : BitVec 32 := Scalar.muli v82 c1_i32_371
  let v384 : BitVec 32 := Scalar.addi c0_i32_372 v383
  v384.toNat
def k0_dev20 (d0 : Dev nD) : Nat :=
  let c0_i32_381 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_41 : BitVec 32 := 2#32
  let v83 : BitVec 32 := Scalar.addi v19 c2_i32_41
  let c4_i32_42 : BitVec 32 := 4#32
  let v84 : BitVec 32 := Scalar.remsi v83 c4_i32_42
  let v85 : BitVec 32 := Scalar.muli c8_i32_43 v84
  let c8_i32_5 : BitVec 32 := 8#32
  let v20 : BitVec 32 := Scalar.muli c8_i32_5 v19
  let v21 : BitVec 32 := Scalar.subi v2 v20
  let v86 : BitVec 32 := Scalar.addi v85 v21
  let c1_i32_380 : BitVec 32 := 1#32
  let v392 : BitVec 32 := Scalar.muli v86 c1_i32_380
  let v393 : BitVec 32 := Scalar.addi c0_i32_381 v392
  v393.toNat
def k0_dev21 (d0 : Dev nD) : Nat :=
  let c0_i32_390 : BitVec 32 := 0#32
  let c8_i32_46 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_44 : BitVec 32 := 3#32
  let v87 : BitVec 32 := Scalar.addi v19 c3_i32_44
  let c4_i32_45 : BitVec 32 := 4#32
  let v88 : BitVec 32 := Scalar.remsi v87 c4_i32_45
  let v89 : BitVec 32 := Scalar.muli c8_i32_46 v88
  let c8_i32_5 : BitVec 32 := 8#32
  let v20 : BitVec 32 := Scalar.muli c8_i32_5 v19
  let v21 : BitVec 32 := Scalar.subi v2 v20
  let v90 : BitVec 32 := Scalar.addi v89 v21
  let c1_i32_389 : BitVec 32 := 1#32
  let v401 : BitVec 32 := Scalar.muli v90 c1_i32_389
  let v402 : BitVec 32 := Scalar.addi c0_i32_390 v401
  v402.toNat
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v412 : Index := Scalar.indexCast v19
  let c0_397 : Index := 0#32
  let c1024_398 : Index := 1024#32
  ![v412.toNat, 0, 1024]
def k0_off17 (d0 : Dev nD) (c1_i32_399 : BitVec 32) : Fin 2 → Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v416 : BitVec 32 := Scalar.addi v19 c1_i32_399
  let c4_i32_400 : BitVec 32 := 4#32
  let v417 : BitVec 32 := Scalar.remsi v416 c4_i32_400
  ![0, v417.toNat]
def k0_off18 (d0 : Dev nD) (c1_i32_399 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v416 : BitVec 32 := Scalar.addi v19 c1_i32_399
  let c4_i32_400 : BitVec 32 := 4#32
  let v417 : BitVec 32 := Scalar.remsi v416 c4_i32_400
  let c0_i32_406 : BitVec 32 := 0#32
  let c0_i32_407 : BitVec 32 := 0#32
  ![v417.toNat, 0, 0]
def k0_off19 (d0 : Dev nD) (c1_i32_445 : BitVec 32) : Fin 2 → Nat :=
  let c1_i32_447 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v471 : BitVec 32 := Scalar.addi v19 c1_i32_445
  let c4_i32_446 : BitVec 32 := 4#32
  let v472 : BitVec 32 := Scalar.remsi v471 c4_i32_446
  ![1, v472.toNat]
def k0_off20 (d0 : Dev nD) (c1_i32_445 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v471 : BitVec 32 := Scalar.addi v19 c1_i32_445
  let c4_i32_446 : BitVec 32 := 4#32
  let v472 : BitVec 32 := Scalar.remsi v471 c4_i32_446
  let c0_i32_452 : BitVec 32 := 0#32
  let c1024_i32_453 : BitVec 32 := 1024#32
  ![v472.toNat, 0, 1024]
abbrev stage0_0 : Fin 1 → Memref sig .tc .vmem S2x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x16384 : Shape := ⟨3, ![2, 2048, 16384]⟩
abbrev S2x128 : Shape := ⟨2, ![2, 128]⟩
abbrev S128x16384 : Shape := ⟨2, ![128, 16384]⟩
abbrev S_ : Shape := ⟨0, ![]⟩
abbrev S2x2048 : Shape := ⟨2, ![2, 2048]⟩
abbrev S2x2048x1 : Shape := ⟨3, ![2, 2048, 1]⟩
abbrev S2x16384 : Shape := ⟨2, ![2, 16384]⟩
abbrev S2x1x16384 : Shape := ⟨3, ![2, 1, 16384]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x16384, .f32⟩
  | .hbm, ⟨1, _⟩ => ⟨S2x128, .bf16⟩
  | .hbm, ⟨2, _⟩ => ⟨S128x16384, .bf16⟩
  | .hbm, ⟨3, _⟩ => ⟨S128x16384, .bf16⟩
  | .hbm, ⟨4, _⟩ => ⟨S2x128, .f32⟩
  | .hbm, ⟨5, _⟩ => ⟨S128x16384, .f32⟩
  | .hbm, ⟨6, _⟩ => ⟨S128x16384, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .i32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x16384, .f32⟩
  | .hbm, ⟨21, _⟩ => ⟨S2x2048x16384, .f32⟩
  | .hbm, ⟨22, _⟩ => ⟨S2x2048x16384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x2048, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x16384, .f32⟩
  | .hbm, ⟨38, _⟩ => ⟨S2x2048x16384, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1, .f32⟩
  | .hbm, ⟨43, _⟩ => ⟨S2x2048x16384, .f32⟩
  | .hbm, ⟨44, _⟩ => ⟨S2x2048x16384, .f32⟩
  | .hbm, ⟨45, _⟩ => ⟨S2x16384, .f32⟩
  | .hbm, ⟨46, _⟩ => ⟨S2x16384, .f32⟩
  | .hbm, ⟨47, _⟩ => ⟨S2x1x16384, .f32⟩
  | .hbm, ⟨48, _⟩ => ⟨S_, .f32⟩
  | .hbm, ⟨49, _⟩ => ⟨S2x1x16384, .f32⟩
  | .hbm, ⟨50, _⟩ => ⟨S2x1x16384, .f32⟩
  | .hbm, ⟨51, _⟩ => ⟨S2x2048x16384, .f32⟩
  | .hbm, ⟨52, _⟩ => ⟨S2x2048x16384, .f32⟩
  | .hbm, ⟨53, _⟩ => ⟨S2x1x16384, .f32⟩
  | .hbm, ⟨54, _⟩ => ⟨S2x2048x16384, .f32⟩
  | .hbm, ⟨55, _⟩ => ⟨S2x2048x16384, .f32⟩
  | .hbm, ⟨56, _⟩ => ⟨S2x2048x16384, .bf16⟩
  | _, _ => ⟨S2x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩

abbrev nD : Nat := 1
abbrev τ : Topo := Topo.v7x

variable {F : FTy → Type} [FloatOps F]
-- ==== Proof.Topo.lean ====
/-
The torus of thirty-two devices as the kernel walks it, and the scratch views and semaphores it names by
device-dependent offsets.

A device is `8 z + q` with `y = q / 2`; its seven partners are one along `x` (`peer 0`), three along `y`
(`peer 1`, `peer 2`, `peer 3`: the plane `y + k`, the column snaking so that `x` is kept) and three along `z`
(`peer 4`, `peer 5`, `peer 6`: the slice `z + k`).
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Stats

open Cert.KernelIdeal Cert.KernelIdeal.Gen
open Idealize.ShloMosaic Idealize.ShloMosaic.TcCoe

/-! ## Coordinates and partners -/

/-- A device's plane along `y`. -/
def yc (c : Dev nD) : Fin 4 := ⟨c.val / 2 % 4, Nat.mod_lt _ (by decide)⟩
/-- A device's slice along `z`. -/
def zc (c : Dev nD) : Fin 4 := ⟨c.val / 8 % 4, Nat.mod_lt _ (by decide)⟩

/-- The partner across `x`. -/
def px (c : Dev nD) : Dev nD := ⟨c.val / 2 * 2 + (c.val + 1) % 2, by have := c.isLt; simp only [nD] at *; omega⟩
/-- The device `k` planes further along `y`, in the same column and slice. -/
def py (k : ℕ) (c : Dev nD) : Dev nD :=
  ⟨c.val / 8 * 8 + (c.val / 2 + k) % 4 * 2 + (c.val + k) % 2, by have := c.isLt; simp only [nD] at *; omega⟩
/-- The device `k` slices further along `z`. -/
def pz (k : ℕ) (c : Dev nD) : Dev nD := ⟨(c.val / 8 + k) % 4 * 8 + c.val % 8, by simp only [nD] at *; omega⟩

/-- Partner `j` of a device: across `x`, then the three along `y`, then the three along `z`. -/
def peer (j : Fin 7) (c : Dev nD) : Dev nD :=
  match j with
  | 0 => px c | 1 => py 1 c | 2 => py 2 c | 3 => py 3 c | 4 => pz 1 c | 5 => pz 2 c | 6 => pz 3 c

/-- The number under which partner `j` counts the device back. -/
def rev (j : Fin 7) : Fin 7 :=
  match j with
  | 0 => 0 | 1 => 3 | 2 => 2 | 3 => 1 | 4 => 6 | 5 => 5 | 6 => 4

theorem rev_rev (j : Fin 7) : rev (rev j) = j := by revert j; decide
theorem peer_rev (j : Fin 7) (c : Dev nD) : peer (rev j) (peer j c) = c := by revert j c; decide +kernel
theorem peer_rev' (j : Fin 7) (c : Dev nD) : peer j (peer (rev j) c) = c := by revert j c; decide +kernel

/-- Partner `j` as a permutation of the devices. -/
def peerE (j : Fin 7) : Dev nD ≃ Dev nD := ⟨peer j, peer (rev j), peer_rev j, peer_rev' j⟩

/-- The slot of a device's landing buffer in which partner `j`'s data lands, beside its own: the partner's plane or slice. -/
def slot (c : Dev nD) (j : Fin 7) : Fin 4 :=
  match j with
  | 0 => 0
  | 1 => yc (py 1 c) | 2 => yc (py 2 c) | 3 => yc (py 3 c)
  | 4 => zc (pz 1 c) | 5 => zc (pz 2 c) | 6 => zc (pz 3 c)

/-! ## The device ids the kernel computes -/

/-- Seven signals, then the transfers: two across `x`, three of each half along `y`, three of each half along `z`. -/
theorem dev1 (c : Dev nD) : (⟨k0_dev1 c, k0_dev1_lt c⟩ : Dev nD) = peer 0 c := by revert c; decide +kernel
theorem dev2 (c : Dev nD) : (⟨k0_dev2 c, k0_dev2_lt c⟩ : Dev nD) = peer 1 c := by revert c; decide +kernel
theorem dev3 (c : Dev nD) : (⟨k0_dev3 c, k0_dev3_lt c⟩ : Dev nD) = peer 2 c := by revert c; decide +kernel
theorem dev4 (c : Dev nD) : (⟨k0_dev4 c, k0_dev4_lt c⟩ : Dev nD) = peer 3 c := by revert c; decide +kernel
theorem dev5 (c : Dev nD) : (⟨k0_dev5 c, k0_dev5_lt c⟩ : Dev nD) = peer 4 c := by revert c; decide +kernel
theorem dev6 (c : Dev nD) : (⟨k0_dev6 c, k0_dev6_lt c⟩ : Dev nD) = peer 5 c := by revert c; decide +kernel
theorem dev7 (c : Dev nD) : (⟨k0_dev7 c, k0_dev7_lt c⟩ : Dev nD) = peer 6 c := by revert c; decide +kernel
theorem dev8 (c : Dev nD) : (⟨k0_dev8 c, k0_dev8_lt c⟩ : Dev nD) = peer 0 c := by revert c; decide +kernel
theorem dev9 (c : Dev nD) : (⟨k0_dev9 c, k0_dev9_lt c⟩ : Dev nD) = peer 0 c := by revert c; decide +kernel
theorem dev10 (c : Dev nD) : (⟨k0_dev10 c, k0_dev10_lt c⟩ : Dev nD) = peer 1 c := by revert c; decide +kernel
theorem dev11 (c : Dev nD) : (⟨k0_dev11 c, k0_dev11_lt c⟩ : Dev nD) = peer 2 c := by revert c; decide +kernel
theorem dev12 (c : Dev nD) : (⟨k0_dev12 c, k0_dev12_lt c⟩ : Dev nD) = peer 3 c := by revert c; decide +kernel
theorem dev13 (c : Dev nD) : (⟨k0_dev13 c, k0_dev13_lt c⟩ : Dev nD) = peer 1 c := by revert c; decide +kernel
theorem dev14 (c : Dev nD) : (⟨k0_dev14 c, k0_dev14_lt c⟩ : Dev nD) = peer 2 c := by revert c; decide +kernel
theorem dev15 (c : Dev nD) : (⟨k0_dev15 c, k0_dev15_lt c⟩ : Dev nD) = peer 3 c := by revert c; decide +kernel
theorem dev16 (c : Dev nD) : (⟨k0_dev16 c, k0_dev16_lt c⟩ : Dev nD) = peer 4 c := by revert c; decide +kernel
theorem dev17 (c : Dev nD) : (⟨k0_dev17 c, k0_dev17_lt c⟩ : Dev nD) = peer 5 c := by revert c; decide +kernel
theorem dev18 (c : Dev nD) : (⟨k0_dev18 c, k0_dev18_lt c⟩ : Dev nD) = peer 6 c := by revert c; decide +kernel
theorem dev19 (c : Dev nD) : (⟨k0_dev19 c, k0_dev19_lt c⟩ : Dev nD) = peer 4 c := by revert c; decide +kernel
theorem dev20 (c : Dev nD) : (⟨k0_dev20 c, k0_dev20_lt c⟩ : Dev nD) = peer 5 c := by revert c; decide +kernel
theorem dev21 (c : Dev nD) : (⟨k0_dev21 c, k0_dev21_lt c⟩ : Dev nD) = peer 6 c := by revert c; decide +kernel

/-! ## The offsets the kernel computes -/

/-- A landing slot's offset: plane or slice `o`, half `h` of the columns. -/
abbrev offM (o : Fin 4) (h : Fin 2) : Fin 3 → Nat := ![o.val, 0, 1024 * h.val]
/-- A semaphore's offset in the two-by-four arrays. -/
abbrev offS (o : Fin 4) (h : Fin 2) : Fin 2 → Nat := ![h.val, o.val]

theorem off1 (c : Dev nD) : k0_off1 c = offS (yc c) 0 := by revert c; decide +kernel
theorem off2 (c : Dev nD) : k0_off2 c = offM (yc c) 0 := by revert c; decide +kernel
theorem off3 (c : Dev nD) : k0_off3 c = offM (yc c) 0 := by revert c; decide +kernel
theorem off4 (c : Dev nD) : k0_off4 c = offS (yc c) 1 := by revert c; decide +kernel
theorem off5 (c : Dev nD) : k0_off5 c = offM (yc c) 1 := by revert c; decide +kernel
theorem off6 (c : Dev nD) : k0_off6 c = offM (yc c) 1 := by revert c; decide +kernel
theorem off9 (c : Dev nD) : k0_off9 c = offS (zc c) 0 := by revert c; decide +kernel
theorem off10 (c : Dev nD) : k0_off10 c = offM (zc c) 0 := by revert c; decide +kernel
theorem off11 (c : Dev nD) : k0_off11 c = offM (zc c) 0 := by revert c; decide +kernel
theorem off14 (c : Dev nD) : k0_off14 c = offS (zc c) 1 := by revert c; decide +kernel
theorem off15 (c : Dev nD) : k0_off15 c = offM (zc c) 1 := by revert c; decide +kernel
theorem off16 (c : Dev nD) : k0_off16 c = offM (zc c) 1 := by revert c; decide +kernel
theorem off7_1 (c : Dev nD) : k0_off7 c 1#32 = offS (slot c 1) 0 := by revert c; decide +kernel
theorem off7_2 (c : Dev nD) : k0_off7 c 2#32 = offS (slot c 2) 0 := by revert c; decide +kernel
theorem off7_3 (c : Dev nD) : k0_off7 c 3#32 = offS (slot c 3) 0 := by revert c; decide +kernel
theorem off8_1 (c : Dev nD) : k0_off8 c 1#32 = offM (slot c 1) 0 := by revert c; decide +kernel
theorem off8_2 (c : Dev nD) : k0_off8 c 2#32 = offM (slot c 2) 0 := by revert c; decide +kernel
theorem off8_3 (c : Dev nD) : k0_off8 c 3#32 = offM (slot c 3) 0 := by revert c; decide +kernel
theorem off12_1 (c : Dev nD) : k0_off12 c 1#32 = offS (slot c 1) 1 := by revert c; decide +kernel
theorem off12_2 (c : Dev nD) : k0_off12 c 2#32 = offS (slot c 2) 1 := by revert c; decide +kernel
theorem off12_3 (c : Dev nD) : k0_off12 c 3#32 = offS (slot c 3) 1 := by revert c; decide +kernel
theorem off13_1 (c : Dev nD) : k0_off13 c 1#32 = offM (slot c 1) 1 := by revert c; decide +kernel
theorem off13_2 (c : Dev nD) : k0_off13 c 2#32 = offM (slot c 2) 1 := by revert c; decide +kernel
theorem off13_3 (c : Dev nD) : k0_off13 c 3#32 = offM (slot c 3) 1 := by revert c; decide +kernel
theorem off17_1 (c : Dev nD) : k0_off17 c 1#32 = offS (slot c 4) 0 := by revert c; decide +kernel
theorem off17_2 (c : Dev nD) : k0_off17 c 2#32 = offS (slot c 5) 0 := by revert c; decide +kernel
theorem off17_3 (c : Dev nD) : k0_off17 c 3#32 = offS (slot c 6) 0 := by revert c; decide +kernel
theorem off18_1 (c : Dev nD) : k0_off18 c 1#32 = offM (slot c 4) 0 := by revert c; decide +kernel
theorem off18_2 (c : Dev nD) : k0_off18 c 2#32 = offM (slot c 5) 0 := by revert c; decide +kernel
theorem off18_3 (c : Dev nD) : k0_off18 c 3#32 = offM (slot c 6) 0 := by revert c; decide +kernel
theorem off19_1 (c : Dev nD) : k0_off19 c 1#32 = offS (slot c 4) 1 := by revert c; decide +kernel
theorem off19_2 (c : Dev nD) : k0_off19 c 2#32 = offS (slot c 5) 1 := by revert c; decide +kernel
theorem off19_3 (c : Dev nD) : k0_off19 c 3#32 = offS (slot c 6) 1 := by revert c; decide +kernel
theorem off20_1 (c : Dev nD) : k0_off20 c 1#32 = offM (slot c 4) 1 := by revert c; decide +kernel
theorem off20_2 (c : Dev nD) : k0_off20 c 2#32 = offM (slot c 5) 1 := by revert c; decide +kernel
theorem off20_3 (c : Dev nD) : k0_off20 c 3#32 = offM (slot c 6) 1 := by revert c; decide +kernel

/-- Where a device sends to its partner, the partner counts the device's own plane or slice. -/
theorem slot_peer (c : Dev nD) : slot (peer 1 c) (rev 1) = yc c ∧ slot (peer 2 c) (rev 2) = yc c ∧ slot (peer 3 c) (rev 3) = yc c
    ∧ slot (peer 4 c) (rev 4) = zc c ∧ slot (peer 5 c) (rev 5) = zc c ∧ slot (peer 6 c) (rev 6) = zc c := by revert c; decide +kernel

/-- A device's own plane and its three partners' are the four. -/
theorem slots_y (c : Dev nD) : ([yc c, slot c 1, slot c 2, slot c 3] : List (Fin 4)).Nodup := by revert c; decide +kernel
theorem slots_z (c : Dev nD) : ([zc c, slot c 4, slot c 5, slot c 6] : List (Fin 4)).Nodup := by revert c; decide +kernel

/-- The device of plane `o` in `c`'s column and slice. -/
def yd (c : Dev nD) (o : Fin 4) : Dev nD := py (o.val + 4 - (yc c).val) c
/-- The device of slice `o` at `c`'s place in the slice. -/
def zd (c : Dev nD) (o : Fin 4) : Dev nD := pz (o.val + 4 - (zc c).val) c

theorem yd_self (c : Dev nD) : yd c (yc c) = c := by revert c; decide +kernel
theorem zd_self (c : Dev nD) : zd c (zc c) = c := by revert c; decide +kernel
theorem yd_slot (c : Dev nD) : yd c (slot c 1) = peer 1 c ∧ yd c (slot c 2) = peer 2 c ∧ yd c (slot c 3) = peer 3 c := by
  revert c; decide +kernel
theorem zd_slot (c : Dev nD) : zd c (slot c 4) = peer 4 c ∧ zd c (slot c 5) = peer 5 c ∧ zd c (slot c 6) = peer 6 c := by
  revert c; decide +kernel

/-! ## Semaphores -/

/-- A duty of a device's cells: its barrier's seven signals, the fourteen landings, the fourteen sources read, the four
    staging copies. -/
inductive D where
  | bar (j : Fin 7)
  | recv (j : Fin 7) (h : Fin 2)
  | send (j : Fin 7) (h : Fin 2)
  | cp (i : Fin 4)
  deriving DecidableEq
/-- The duties in four families. -/
def D.equiv : (Fin 7 ⊕ (Fin 7 × Fin 2) ⊕ (Fin 7 × Fin 2) ⊕ Fin 4) ≃ D where
  toFun
    | .inl j => .bar j
    | .inr (.inl (j, h)) => .recv j h
    | .inr (.inr (.inl (j, h))) => .send j h
    | .inr (.inr (.inr i)) => .cp i
  invFun
    | .bar j => .inl j
    | .recv j h => .inr (.inl (j, h))
    | .send j h => .inr (.inr (.inl (j, h)))
    | .cp i => .inr (.inr (.inr i))
  left_inv := by rintro (_ | ⟨_, _⟩ | ⟨_, _⟩ | _) <;> rfl
  right_inv := by rintro (_ | _ | _ | _) <;> rfl
instance : Fintype D := Fintype.ofEquiv _ D.equiv
abbrev dBar (j : Fin 7) : D := .bar j
abbrev dRecv (j : Fin 7) (h : Fin 2) : D := .recv j h
abbrev dSend (j : Fin 7) (h : Fin 2) : D := .send j h
abbrev dCp (i : Fin 4) : D := .cp i

/-- The runtime's barrier semaphore of collective id 0. -/
abbrev barS : Sem sig := (SemArray.scalar (sig.barrier 0 rfl) : Sems sig S_).sem

/-- The kernel's forty own semaphores in order, and the barrier semaphore last. -/
def csem (k : Fin 41) : SemLoc sig :=
  if h : k.val < 40 then .dma (⟨k.val + 4, by show _ < 44; omega⟩ : DmaSem sig) else .reg barS

/-- The semaphore of transfer `(j, h)`'s source. -/
def kSend (j : Fin 7) (h : Fin 2) : Fin 41 :=
  match j with
  | 0 => ⟨4 + h.val, by omega⟩
  | 1 => ⟨9 + 4 * h.val, by omega⟩ | 2 => ⟨10 + 4 * h.val, by omega⟩ | 3 => ⟨11 + 4 * h.val, by omega⟩
  | 4 => ⟨25 + 4 * h.val, by omega⟩ | 5 => ⟨26 + 4 * h.val, by omega⟩ | 6 => ⟨27 + 4 * h.val, by omega⟩

/-- The semaphore on which partner `j`'s half `h` lands. -/
def kRecv (c : Dev nD) (j : Fin 7) (h : Fin 2) : Fin 41 :=
  if j.val = 0 then ⟨6 + h.val, by omega⟩
  else if j.val ≤ 3 then ⟨16 + 4 * h.val + (slot c j).val, by omega⟩
  else ⟨32 + 4 * h.val + (slot c j).val, by omega⟩

/-- The semaphore of a duty. -/
def kOf (c : Dev nD) : D → Fin 41
  | .bar _ => 40
  | .recv j h => kRecv c j h
  | .send j h => kSend j h
  | .cp i => ⟨i.val, by omega⟩

abbrev semOf (c : Dev nD) (d : D) : SemLoc sig := csem (kOf c d)

theorem csem_injective : Function.Injective csem := by
  intro k k' h
  unfold csem at h
  split at h <;> split at h
  · injection h with h; have := congrArg Fin.val h; apply Fin.ext; simp only at this; omega
  · cases h
  · cases h
  · apply Fin.ext; omega

/-- Beside the barrier's, no two duties of a device share a semaphore. -/
theorem kOf_inj (c : Dev nD) (d d' : D) (hd : kOf c d ≠ 40) (h : kOf c d' = kOf c d) : d' = d := by
  have H : ∀ c : Dev nD, Function.Injective fun p : (Fin 7 × Fin 2) ⊕ (Fin 7 × Fin 2) ⊕ Fin 4 => kOf c (D.equiv (.inr p)) := by
    decide +kernel
  obtain ⟨d | d, rfl⟩ := D.equiv.surjective d
  · exact absurd rfl hd
  · obtain ⟨d' | d', rfl⟩ := D.equiv.surjective d'
    · exact absurd h.symm hd
    · rw [H c h]
theorem kOf_bar (c : Dev nD) (d : D) : kOf c d = 40 ↔ ∃ j, d = dBar j := by
  have H : ∀ (c : Dev nD) (d : D), kOf c d = 40 ↔ ∃ j, d = dBar j := by decide +kernel
  exact H c d

/-- The semaphore the kernel names in a two-by-four array at an offset. -/
abbrev semIn (A : DmaSems sig S2x4) (off : Fin 2 → Nat) (h : ∀ a, off a + S1x1.size a ≤ S2x4.size a) : DmaSem sig :=
  ((A.slice (Rect.unit (s := S2x4) off S1x1.size h)).squeeze S_ squeezes_S1x1_S_).sem

theorem semIn_sy (h : Fin 2) (o : Fin 4) (hh) : semIn cc0_scratch10 (offS o h) hh = (⟨12 + 4 * h.val + o.val, by show _ < 44; omega⟩ : DmaSem sig) := by
  revert hh; revert h o; decide +kernel
theorem semIn_ry (h : Fin 2) (o : Fin 4) (hh) : semIn cc0_scratch11 (offS o h) hh = (⟨20 + 4 * h.val + o.val, by show _ < 44; omega⟩ : DmaSem sig) := by
  revert hh; revert h o; decide +kernel
theorem semIn_sz (h : Fin 2) (o : Fin 4) (hh) : semIn cc0_scratch12 (offS o h) hh = (⟨28 + 4 * h.val + o.val, by show _ < 44; omega⟩ : DmaSem sig) := by
  revert hh; revert h o; decide +kernel
theorem semIn_rz (h : Fin 2) (o : Fin 4) (hh) : semIn cc0_scratch13 (offS o h) hh = (⟨36 + 4 * h.val + o.val, by show _ < 44; omega⟩ : DmaSem sig) := by
  revert hh; revert h o; decide +kernel

end Cert.KernelIdeal.Stats
end
-- ==== Proof.Sched.lean ====
/-
The protocol: every semaphore of every device, what is delivered on it, by whom, and with which contents.

Each device's barrier semaphore collects one unit from each of its seven partners; partner `j`'s unit hands over the two
landing slots (one per half of the columns) into which the device will send to partner `j`. Each landing semaphore
collects one transfer, and hands over the slot holding the partner's statistics of that stage. Each source semaphore
hands back the share of the source lent to the transfer, and each staging semaphore a quarter of `x`, copied.
-/
module

public import proofs.«01_k».proof.Proof.Topo
public import proofs.«01_k».proof.Proof.Gen.KernelIdeal.Launch

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's -/

abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs -/

abbrev xM : Memref sig .tc .hbm S2x2048x512 .f32 := Memref.whole main_arg0
abbrev xvM : Memref sig .tc .vmem S2x2048x512 .f32 := Memref.whole cc0_scratch0
abbrev locM : Memref sig .tc .vmem S4x2048 .f32 := Memref.whole cc0_scratch1
abbrev redyM : Memref sig .tc .vmem S4x2048 .f32 := Memref.whole cc0_scratch2
abbrev redzM : Memref sig .tc .vmem S4x2048 .f32 := Memref.whole cc0_scratch3
abbrev bufxM : Memref sig .tc .vmem S4x2048 .f32 := Memref.whole cc0_scratch4
abbrev bufyM : Memref sig .tc .vmem S4x4x2048 .f32 := Memref.whole cc0_scratch5
abbrev bufzM : Memref sig .tc .vmem S4x4x2048 .f32 := Memref.whole cc0_scratch6

/-- A quarter of the rows of `x`. -/
abbrev chunkR (i : Fin 4) : Rect S2x2048x512 :=
  Rect.unit (s := S2x2048x512) ![0, 512 * i.val, 0] S2x512x512.size (by revert i; decide)
/-- Half of the columns of a statistics buffer, -/
abbrev halfR (h : Fin 2) : Rect S4x2048 := Rect.unit (s := S4x2048) ![0, 1024 * h.val] S4x1024.size (by revert h; decide)
/-- a quarter of them, -/
abbrev quartR (i : Fin 4) : Rect S4x2048 := Rect.unit (s := S4x2048) ![0, 512 * i.val] S4x512.size (by revert i; decide)
/-- and slot `o`'s half of a landing buffer. -/
abbrev slotR (o : Fin 4) (h : Fin 2) : Rect S4x4x2048 :=
  Rect.unit (s := S4x4x2048) (offM o h) S1x4x1024.size (by revert o h; decide)

abbrev halfM (b : Memref sig .tc .vmem S4x2048 .f32) (h : Fin 2) : Memref sig .tc .vmem S4x1024 .f32 := b.slice (halfR h) (fun _ => rfl)
abbrev slotM (b : Memref sig .tc .vmem S4x4x2048 .f32) (o : Fin 4) (h : Fin 2) : Memref sig .tc .vmem S4x1024 .f32 :=
  (b.slice (slotR o h) (fun _ => rfl)).squeeze S4x1024 squeezes_S1x4x1024_S4x1024

/-- Transfer `(j, h)`'s source, -/
abbrev srcM (j : Fin 7) (h : Fin 2) : Memref sig .tc .vmem S4x1024 .f32 :=
  match j with
  | 0 => halfM locM h
  | 1 => halfM redyM h | 2 => halfM redyM h | 3 => halfM redyM h
  | 4 => halfM redzM h | 5 => halfM redzM h | 6 => halfM redzM h
/-- and where partner `j`'s half `h` lands. -/
abbrev dstM (c : Dev nD) (j : Fin 7) (h : Fin 2) : Memref sig .tc .vmem S4x1024 .f32 :=
  match j with
  | 0 => halfM bufxM h
  | 1 => slotM bufyM (slot c 1) h | 2 => slotM bufyM (slot c 2) h | 3 => slotM bufyM (slot c 3) h
  | 4 => slotM bufzM (slot c 4) h | 5 => slotM bufzM (slot c 5) h | 6 => slotM bufzM (slot c 6) h

/-- The share of a source lent to transfer `j`: half of it, a half of the rest, a half of what then remains. -/
abbrev lent (j : Fin 7) : PosShare TreeShare :=
  match j with
  | 0 => fullShare.left
  | 1 => fullShare.left | 2 => fullShare.right.left | 3 => fullShare.right.right.left
  | 4 => fullShare.left | 5 => fullShare.right.left | 6 => fullShare.right.right.left

/-! ## The contents -/

/-- A device's block of `x`. -/
def xin (c : Dev nD) : (main_arg0 : Ref sig .tc).ty.Contents (Elt F) := m ((c : Thread nD τ).loc main_arg0)
/-- Quarter `i` of its rows. -/
def xchunk (i : Fin 4) (c : Dev nD) : Vec F S2x512x512 .f32 := fun k => xin m c ((chunkR i).emb k)
/-- The row sums and sums of squares over the device's columns, half `h`. -/
def V0 (h : Fin 2) (c : Dev nD) : Vec F S4x1024 .f32 := fun k =>
  if hk : (k 1).val < 512 then k0_pay4 (xchunk m ⟨2 * h.val, by omega⟩ c) (fun | 0 => k 0 | 1 => ⟨(k 1).val, hk⟩)
  else k0_pay4 (xchunk m ⟨2 * h.val + 1, by omega⟩ c) (fun | 0 => k 0 | 1 => ⟨(k 1).val - 512, by have : (k 1).val < 1024 := (k 1).isLt; show _ < 512; omega⟩)
/-- Those of the device and its partner across `x`. -/
def V1 (h : Fin 2) (c : Dev nD) : Vec F S4x1024 .f32 := k0_pay8 (V0 m h c) (V0 m h (peer 0 c))
/-- Four of one shape side by side. -/
def stack4 (X : Fin 4 → Vec F S4x1024 .f32) : Vec F S4x4x1024 .f32 := fun k => X (k 0) (fun | 0 => k 1 | 1 => k 2)
/-- The sums over the four planes, -/
def V2 (h : Fin 2) (c : Dev nD) : Vec F S4x1024 .f32 := k0_pay12 (stack4 fun o => V1 m h (yd c o))
/-- and the four slices' sums side by side. -/
def W2 (h : Fin 2) (c : Dev nD) : Vec F S4x4x1024 .f32 := stack4 fun o => V2 m h (zd c o)

/-- What a device sends in transfer `(j, h)`. -/
abbrev val (j : Fin 7) (h : Fin 2) (c : Dev nD) : Vec F S4x1024 .f32 :=
  match j with
  | 0 => V0 m h c
  | 1 => V1 m h c | 2 => V1 m h c | 3 => V1 m h c
  | 4 => V2 m h c | 5 => V2 m h c | 6 => V2 m h c

/-- A partner's transfer back carries the same stage. -/
theorem val_rev (j : Fin 7) (h : Fin 2) (c : Dev nD) : val m (rev j) h c = val m j h c := by
  match j with
  | 0 => rfl | 1 => rfl | 2 => rfl | 3 => rfl | 4 => rfl | 5 => rfl | 6 => rfl

/-! ## The amounts -/

/-- A transfer's credit, and a staging copy's. -/
def N : ℕ := (halfM bufxM 0).view.dmaCredit
def Ncp : ℕ := (xvM.slice (chunkR 0) (fun _ => rfl)).view.dmaCredit
theorem N_pos : 0 < N := View.dmaCredit_pos _ (by decide)
theorem Ncp_pos : 0 < Ncp := View.dmaCredit_pos _ (by decide)

/-- Every landing slot takes the same credit. -/
theorem dst_credit (c : Dev nD) (j : Fin 7) (h : Fin 2) : (dstM c j h).view.dmaCredit = N := by
  match j with
  | 0 => rfl | 1 => rfl | 2 => rfl | 3 => rfl | 4 => rfl | 5 => rfl | 6 => rfl
theorem src_credit (j : Fin 7) (h : Fin 2) : (srcM j h).view.dmaCredit = N := by
  match j with
  | 0 => rfl | 1 => rfl | 2 => rfl | 3 => rfl | 4 => rfl | 5 => rfl | 6 => rfl
theorem cp_credit (i : Fin 4) : (xvM.slice (chunkR i) (fun _ => rfl)).view.dmaCredit = Ncp := rfl

def amt : D → ℕ
  | .bar _ => 1
  | .recv _ _ => N
  | .send _ _ => N
  | .cp _ => Ncp

theorem amt_recv (j : Fin 7) (h : Fin 2) : amt (dRecv j h) = N := rfl
theorem amt_send (j : Fin 7) (h : Fin 2) : amt (dSend j h) = N := rfl
theorem amt_cp (i : Fin 4) : amt (dCp i) = Ncp := rfl

theorem amt_pos (d : D) : 0 < amt d := by
  rcases d with _ | ⟨j, h⟩ | ⟨j, h⟩ | i
  · exact Nat.one_pos
  · exact (amt_recv j h).symm ▸ N_pos
  · exact (amt_send j h).symm ▸ N_pos
  · exact (amt_cp i).symm ▸ Ncp_pos

/-! ## The schedule -/

/-- A memref of a device held whole at some contents. -/
def some_ (c : Dev nD) {s : Shape} (M : Memref sig .tc .vmem s .f32) : sProp 𝕄 :=
  iprop(∃ X : s.Idx → Elt F .f32, owns (c : Thread nD τ) M fullShare X)

omit [FloatOps F] in
instance some_storable (c : Dev nD) {s : Shape} (M : Memref sig .tc .vmem s .f32) :
    BI.Storable (upEmb : UEmb _ 𝕄) (some_ (F := F) c M) := by unfold some_; infer_instance

/-- The two landing slots on partner `j` of `c` into which `c` will send. -/
def lendTo (c : Dev nD) (j : Fin 7) : sProp 𝕄 :=
  iprop(some_ (F := F) (peer j c) (dstM (peer j c) (rev j) 0) ∗ some_ (F := F) (peer j c) (dstM (peer j c) (rev j) 1))
omit [FloatOps F] in
instance lendTo_storable (c : Dev nD) (j : Fin 7) : BI.Storable (upEmb : UEmb _ 𝕄) (lendTo (F := F) c j) := by unfold lendTo; infer_instance

def recvPay (c : Dev nD) (j : Fin 7) (h : Fin 2) : sProp 𝕄 := owns (c : Thread nD τ) (dstM c j h) fullShare (val m j h (peer j c))
instance recvPay_storable (c : Dev nD) (j : Fin 7) (h : Fin 2) : BI.Storable (upEmb : UEmb _ 𝕄) (recvPay m c j h) := by unfold recvPay; infer_instance
def sendPay (c : Dev nD) (j : Fin 7) (h : Fin 2) : sProp 𝕄 := owns (c : Thread nD τ) (srcM j h) (lent j) (val m j h c)
instance sendPay_storable (c : Dev nD) (j : Fin 7) (h : Fin 2) : BI.Storable (upEmb : UEmb _ 𝕄) (sendPay m c j h) := by unfold sendPay; infer_instance
def cpPay (c : Dev nD) (i : Fin 4) : sProp 𝕄 :=
  iprop(owns (c : Thread nD τ) (xvM.slice (chunkR i) (fun _ => rfl)) fullShare (xchunk m i c)
    ∗ owns (c : Thread nD τ) (xM.slice (chunkR i) (fun _ => rfl)) fullShare (xchunk m i c))
instance cpPay_storable (c : Dev nD) (i : Fin 4) : BI.Storable (upEmb : UEmb _ 𝕄) (cpPay m c i) := by unfold cpPay; infer_instance

/-- What duty `d` of device `c` delivers. -/
def pay (c : Dev nD) : D → sProp 𝕄
  | .bar j => lendTo c j
  | .recv j h => recvPay m c j h
  | .send j h => sendPay m c j h
  | .cp i => cpPay m c i
instance pay_storable (c : Dev nD) (d : D) : BI.Storable (upEmb : UEmb _ 𝕄) (pay m c d) := by
  rcases d with j | ⟨j, h⟩ | ⟨j, h⟩ | i <;> (unfold pay; infer_instance)

/-- One round: a TensorCore's cell has the duties of its semaphore. -/
def Rd : Rounds.Schedule (GSem nD τ sig) D 𝕄 where
  duties g r := if r = 0 ∧ g.1.2 = .tc then Finset.univ.filter (fun d => semOf g.1.1 d = g.2) else ∅
  unitless _ := False
  amount _ _ d := amt d
  payload g _ d := pay m g.1.1 d
  amount_pos _ _ d _ := amt_pos d

instance Rd_payload_storable (g : GSem nD τ sig) (r : ℕ) (d : D) : BI.Storable (upEmb : UEmb _ 𝕄) ((Rd (F := F) m).payload g r d) :=
  pay_storable m g.1.1 d

/-- Semaphore `k` of a device. -/
abbrev kcell (ck : Dev nD × Fin 41) : GSem nD τ sig := ((ck.1 : Thread nD τ), csem ck.2)
/-- The semaphore of a device's duty. -/
abbrev dcell (c : Dev nD) (d : D) : GSem nD τ sig := kcell (c, kOf c d)

theorem mem_duties (c : Dev nD) (d : D) : d ∈ (Rd m).duties (dcell c d) 0 := by
  dsimp only [Rd]; rw [if_pos ⟨rfl, rfl⟩]; exact Finset.mem_filter.mpr ⟨Finset.mem_univ _, rfl⟩

theorem duties_later (g : GSem nD τ sig) : ∀ r, 1 ≤ r → (Rd m).duties g r = ∅ :=
  fun r hr => by dsimp only [Rd]; rw [if_neg fun h => by omega]

theorem duties_eq (c : Dev nD) (d : D) (hd : kOf c d ≠ 40) : (Rd m).duties (dcell c d) 0 = {d} := by
  dsimp only [Rd]; rw [if_pos ⟨rfl, rfl⟩]
  ext d'
  rw [Finset.mem_filter, Finset.mem_singleton]
  exact ⟨fun h => kOf_inj c d d' hd (csem_injective h.2), fun h => ⟨Finset.mem_univ _, by rw [h]⟩⟩

/-- The barrier semaphore's duties are the seven signals. -/
theorem duties_bar (c : Dev nD) : (Rd m).duties (kcell (c, 40)) 0 = Finset.univ.map ⟨dBar, fun _ _ h => D.bar.inj h⟩ := by
  dsimp only [Rd]; rw [if_pos ⟨rfl, rfl⟩]
  ext d'
  rw [Finset.mem_filter, Finset.mem_map]
  constructor
  · intro h
    obtain ⟨j, rfl⟩ := (kOf_bar c d').mp (csem_injective h.2)
    exact ⟨j, Finset.mem_univ _, rfl⟩
  · rintro ⟨j, -, rfl⟩
    exact ⟨Finset.mem_univ _, rfl⟩

theorem expect_eq (c : Dev nD) (d : D) (hd : kOf c d ≠ 40) : (Rd m).expect (dcell c d) 0 = amt d := by
  unfold Schedule.expect Schedule.amountOf; rw [duties_eq m c d hd, Finset.sum_singleton]; rfl

theorem expect_bar (c : Dev nD) : (Rd m).expect (kcell (c, 40)) 0 = 7 := by
  unfold Schedule.expect Schedule.amountOf
  rw [duties_bar, Finset.sum_map]
  show ∑ _j : Fin 7, 1 = 7
  rw [Finset.sum_const, Finset.card_univ, Fintype.card_fin, smul_eq_mul]

theorem rest_eq (c : Dev nD) (d : D) (hd : kOf c d ≠ 40) :
    bigSep ((Rd m).duties (dcell c d) 0 \ ∅) (fun d' => (Rd m).payload (dcell c d) 0 d') = pay m c d := by
  rw [Finset.sdiff_empty, duties_eq m c d hd, bigSep_singleton]; rfl

theorem rest_bar (c : Dev nD) :
    bigSep ((Rd m).duties (kcell (c, 40)) 0 \ ∅) (fun d' => (Rd m).payload (kcell (c, 40)) 0 d')
      = bigSep Finset.univ fun j : Fin 7 => lendTo (F := F) c j := by
  rw [Finset.sdiff_empty, duties_bar, bigSep_map]; rfl

/-! ## What a device owes, and the levels -/

/-- The device whose cell a device's payment `d` goes to. -/
def payee (c : Dev nD) : D → Dev nD
  | .bar j => peer (rev j) c
  | .recv j _ => peer (rev j) c
  | .send _ _ => c
  | .cp _ => c
/-- The cell. -/
abbrev pcell (c : Dev nD) (d : D) : GSem nD τ sig := dcell (payee c d) d

/-- What is owed when the payments `l` are left, the next one first. -/
def owed (c : Dev nD) : List D → CellTallies nD τ sig Unit
  | [] => 0
  | d :: l => owed c l + tallyAt (pcell c d) () (amt d)

theorem owed_cons (c : Dev nD) (d : D) (l : List D) : owed c (d :: l) = owed c l + tallyAt (pcell c d) () (amt d) := rfl

theorem owed_pos {c : Dev nD} {l : List D} {g : GSem nD τ sig} {u : Unit} (h : 0 < owed c l g u) : ∃ d ∈ l, g = pcell c d := by
  induction l with
  | nil => exact absurd h (Nat.lt_irrefl 0)
  | cons d l ih =>
    unfold owed at h
    rw [Pi.add_apply, Finsupp.add_apply, tallyAt_apply] at h
    by_cases hg : g = pcell c d ∧ u = ()
    · exact ⟨d, List.mem_cons_self, hg.1⟩
    · rw [if_neg hg] at h
      obtain ⟨d', hd', e⟩ := ih h
      exact ⟨d', List.mem_cons_of_mem _ hd', e⟩

def L (g : GSem nD τ sig) : Finset Unit := if g.1.2 = .tc then {()} else ∅
/-- A DMA semaphore's level by its number: landings across `x` at 2, along `y` at 3, along `z` at 4, everything else at 0. -/
def lvN (n : ℕ) : ℕ := if 10 ≤ n ∧ n < 12 then 2 else if 20 ≤ n ∧ n < 28 then 3 else if 36 ≤ n then 4 else 0
/-- Barriers at 1. -/
def lv (g : GSem nD τ sig) (_ : Unit) : ℕ := match g.2 with | .reg _ => 1 | .dma q => lvN q.val

theorem L_of_ne (g : GSem nD τ sig) (h : g.1.2 ≠ .tc) : L g = ∅ := if_neg h
theorem L_tc (c : Dev nD) (sm : SemLoc sig) : L ((c : Thread nD τ), sm) = {()} := if_pos rfl

/-- The level of the cell a duty lies in. -/
def lvD : D → ℕ
  | .bar _ => 1
  | .recv j _ => if j.val = 0 then 2 else if j.val ≤ 3 then 3 else 4
  | _ => 0

theorem lv_kcell (c : Dev nD) (k : Fin 41) (u : Unit) : lv (kcell (c, k)) u = if k.val < 40 then lvN (k.val + 4) else 1 := by
  unfold kcell csem lv
  by_cases h : k.val < 40
  · rw [dif_pos h, if_pos h]
  · rw [dif_neg h, if_neg h]

theorem lv_dcell (c : Dev nD) (d : D) (u : Unit) : lv (dcell c d) u = lvD d := by
  rw [lv_kcell]
  have H : ∀ (c : Dev nD) (d : D), (if (kOf c d).val < 40 then lvN ((kOf c d).val + 4) else 1) = lvD d := by decide +kernel
  exact H c d

omit [FloatOps F] in
/-- A device may wait on a cell below everything it still owes. -/
theorem mayWait_of_lt (c : Dev nD) (sm : SemLoc sig) (a : ℕ) (l : List D) (ha : lv ((c : Thread nD τ), sm) () ≤ a) (hl : ∀ d ∈ l, a < lvD d) :
    (levAts L lv : sProp 𝕄) ⊢ MayWait (c : Thread nD τ) sm () (owed c l) :=
  MayOwe.of_cut (L := L) (lev := lv) a (fun p hp => by rw [Finset.mem_singleton.mp hp, L_tc]; exact Finset.mem_singleton_self _)
    (fun g u hg => by obtain ⟨d, -, rfl⟩ := owed_pos hg; rw [L_tc]; exact Finset.mem_singleton_self _)
    (fun p hp => by rw [Finset.mem_singleton.mp hp]; exact ha)
    (fun g u hg => by obtain ⟨d, hd, rfl⟩ := owed_pos hg; rw [lv_dcell]; exact hl d hd)

/-- All twenty-one payments in the order they are made. -/
def payments : List D :=
  [dBar 0, dBar 3, dBar 2, dBar 1, dBar 6, dBar 5, dBar 4, dRecv 0 0, dRecv 0 1, dRecv 3 0, dRecv 2 0, dRecv 1 0, dRecv 3 1, dRecv 2 1, dRecv 1 1,
   dRecv 6 0, dRecv 5 0, dRecv 4 0, dRecv 6 1, dRecv 5 1, dRecv 4 1]

end Cert.KernelIdeal.Stats
end
-- ==== Proof.Ops.lean ====
/-
One lemma for each kind of statement of the body: a signal, a transfer, a wait for one, a staging copy, a load, a store.
-/
module

public import proofs.«01_k».proof.Proof.Sched

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What is held -/

/-- Every cell's level. -/
def levs : sProp 𝕄 := iprop(emp ∗ levAts L lv)
omit [FloatOps F] in
instance levs_persistent : BI.Persistent (levs (F := F)) := by unfold levs; infer_instance

/-- Every cell's invariant and that every cell is at round 0, and the levels. -/
def recs (K : Dev nD × Fin 41 → ℕ) : sProp 𝕄 :=
  iprop((bigSep Finset.univ fun ck : Dev nD × Fin 41 => cellInv ER (Rd m) (K ck) (kcell ck))
    ∗ (bigSep Finset.univ fun ck : Dev nD × Fin 41 => reached ER (kcell ck) 0) ∗ levs (F := F))
instance recs_persistent (K : Dev nD × Fin 41 → ℕ) : BI.Persistent (recs (F := F) m K) := by unfold recs; infer_instance

theorem recs_inv (K : Dev nD × Fin 41 → ℕ) (ck : Dev nD × Fin 41) : recs m K ⊢ cellInv ER (Rd m) (K ck) (kcell ck) := by
  unfold recs; iintro ⟨H, -, -⟩
  iapply (show (bigSep Finset.univ fun ck : Dev nD × Fin 41 => (cellInv ER (Rd m) (K ck) (kcell ck) : sProp 𝕄)) ⊢ cellInv ER (Rd m) (K ck) (kcell ck)
    from bigSep_elim (Finset.mem_univ ck)) $$ H
theorem recs_reached (K : Dev nD × Fin 41 → ℕ) (ck : Dev nD × Fin 41) : recs m K ⊢ reached ER (kcell ck) 0 := by
  unfold recs; iintro ⟨-, H, -⟩
  iapply (show (bigSep Finset.univ fun ck : Dev nD × Fin 41 => (reached ER (kcell ck) 0 : sProp 𝕄)) ⊢ reached ER (kcell ck) 0
    from bigSep_elim (Finset.mem_univ ck)) $$ H
theorem recs_levs (K : Dev nD × Fin 41 → ℕ) : recs m K ⊢ levs (F := F) := by
  unfold recs
  iintro ⟨-, -, H⟩
  iexact H

theorem recs_wait (K : Dev nD × Fin 41 → ℕ) (c : Dev nD) (sm : SemLoc sig) (a : ℕ) (l : List D) (ha : lv ((c : Thread nD τ), sm) () ≤ a)
    (hl : ∀ d ∈ l, a < lvD d) : recs m K ⊢ MayWait (c : Thread nD τ) sm () (owed c l) := by
  refine (recs_levs m K).trans ?_
  unfold levs
  iintro ⟨-, H⟩
  iapply (mayWait_of_lt c sm a l ha hl) $$ H

/-- What the device owes, whatever it has waited for. -/
def owesL (c : Dev nD) (l : List D) : sProp 𝕄 := iprop(∃ W : Waits sig Unit, owes (c : Thread nD τ) (owed c l) W)
/-- The device's token for its payment `d`. -/
def tok (c : Dev nD) (d : D) : sProp 𝕄 := dutyTok ER (pcell c d) 0 d
/-- What waiting on the cell of duty `d` takes, -/
def waitKit (c : Dev nD) (d : D) : sProp 𝕄 := iprop(cred (tallyAt (dcell c d) () (amt d)) ∗ atPos ER (dcell c d) 0 ∅ 0)
/-- and what is left of it. -/
def done (c : Dev nD) (k : Fin 41) : sProp 𝕄 := atPos ER (kcell (c, k)) 1 ∅ 0
/-- What a transfer takes: the tokens of its landing and of its source, and the source semaphore's position; -/
def sendKit (c : Dev nD) (j : Fin 7) (h : Fin 2) : sProp 𝕄 :=
  iprop(tok c (dRecv (rev j) h) ∗ tok c (dSend j h) ∗ atPos ER (dcell c (dSend j h)) 0 ∅ 0)
/-- What the barrier wait takes, -/
def barKit (c : Dev nD) : sProp 𝕄 := iprop(cred (tallyAt (kcell (c, 40)) () 7) ∗ atPos ER (kcell (c, 40)) 0 ∅ 0)
/-- what the signal to partner `j` takes, -/
def sigKit (c : Dev nD) (j : Fin 7) : sProp 𝕄 :=
  iprop(tok c (dBar (rev j)) ∗ some_ (F := F) c (dstM c j 0) ∗ some_ (F := F) c (dstM c j 1))
/-- and what a staging copy takes. -/
def cpKit (c : Dev nD) (i : Fin 4) : sProp 𝕄 := iprop(tok c (dCp i) ∗ atPos ER (dcell c (dCp i)) 0 ∅ 0)

/-! ## Waits -/

theorem op_wait (K : Dev nD × Fin 41 → ℕ) (c : Dev nD) (d : D) (l : List D) (hd : kOf c d ≠ 40) (a : ℕ) (ha : lvD d ≤ a) (hl : ∀ d' ∈ l, a < lvD d')
    {sem : DmaSem sig} (hs : SemLoc.dma sem = semOf c d)
    {sp sp' : Space} {s s' : Shape} {e e' : EltTy} {src : Memref sig .tc sp' s' e'} {dst : Memref sig .tc sp s e}
    (hN : dst.view.dmaCredit = amt d)
    {hsrc : src.view.WordExact} {hdst : dst.view.WordExact} {A : Type} {k : PUnit → Prog (TpuEff nD τ sig (Elt F) Λ₀ .tc) A} {Q : A → sProp 𝕄} :
    recs m K ⊢ iprop(owesL c l -∗ waitKit c d -∗ ((owesL c l ∗ done c (kOf c d) ∗ pay m c d) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  unfold owesL waitKit
  iintro #HR ⟨%W, HO⟩ ⟨Hc, Hat⟩ Hk
  have hcell : (((c : Thread nD τ), SemLoc.dma sem) : GSem nD τ sig) = dcell c d := by rw [hs]
  iapply (Rounds.wp_wait_rest_token 𝒱₀ ER (Rd m) (c : Thread nD τ) none (κ := K (c, kOf c d))
      (wpE_waitDma2_eq 𝒱₀ (c : Thread nD τ) none Set.univ) (Set.mem_univ _) () (O := owed c l) (W := W) (R := 0) (m := 0) (T := ∅)
      (by rw [Nat.zero_add, hN, hcell, expect_eq m c d hd])) $$ [Hc HO Hat]
  · rw [hN]
    isplitr; · rw [hcell]; iapply (recs_inv m K (c, kOf c d)); iexact HR
    isplitl [Hc]; · rw [hcell]; iexact Hc
    isplitl [HO]; · iexact HO
    isplitr; · iapply (recs_wait m K c (SemLoc.dma sem) a l (by rw [hs, lv_dcell]; exact ha) hl); iexact HR
    rw [hcell]; iexact Hat
  rw [hcell, rest_eq m c d hd]
  iintro ⟨HO, Hat, -, Hp⟩
  iapply Hk
  isplitl [HO]; · iexists _; iexact HO
  isplitl [Hat]; · unfold done; iexact Hat
  iexact Hp

/-- The wait on the barrier semaphore for all seven units. -/
theorem op_wait_bar (K : Dev nD × Fin 41 → ℕ) (c : Dev nD) (l : List D) (hl : ∀ d' ∈ l, 1 < lvD d')
    {A : Type} {k : PUnit → Prog (TpuEff nD τ sig (Elt F) Λ₀ .tc) A} {Q : A → sProp 𝕄} :
    recs m K ⊢ iprop(owesL c l -∗ barKit c -∗ ((owesL c l ∗ done c 40 ∗ bigSep Finset.univ fun j : Fin 7 => lendTo (F := F) c j)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 7) k) Q) := by
  unfold owesL barKit
  iintro #HR ⟨%W, HO⟩ ⟨Hc, Hat⟩ Hk
  iapply (Rounds.wp_wait_rest_token 𝒱₀ ER (Rd m) (c : Thread nD τ) none (κ := K (c, 40)) (sm := SemLoc.reg barS) (k' := 7)
      (wpE_semWait_eq 𝒱₀ (c : Thread nD τ) none Set.univ) (Set.mem_univ _) () (O := owed c l) (W := W) (R := 0) (m := 0) (T := ∅)
      ((Nat.zero_add _).trans (expect_bar m c).symm)) $$ [Hc HO Hat]
  · isplitr; · iapply (recs_inv m K (c, 40)); iexact HR
    isplitl [Hc]; · iexact Hc
    isplitl [HO]; · iexact HO
    isplitr; · iapply (@recs_wait F _ m K c (SemLoc.reg barS) 1 l (le_refl _) hl); iexact HR
    iexact Hat
  rw [show ((c : Thread nD τ), SemLoc.reg barS) = kcell (c, 40) from rfl, rest_bar]
  iintro ⟨HO, Hat, -, Hp⟩
  iapply Hk
  isplitl [HO]; · iexists _; iexact HO
  isplitl [Hat]; · unfold done; iexact Hat
  iexact Hp

/-- What a device hands over with its signal to partner `j`. -/
theorem lend_intro (c : Dev nD) (j : Fin 7) :
    iprop(some_ (F := F) c (dstM c j 0) ∗ some_ (F := F) c (dstM c j 1)) ⊢ (lendTo (F := F) (peer j c) (rev j) : sProp 𝕄) := by
  unfold lendTo; rw [peer_rev, rev_rev]

/-! ## Payments -/

theorem op_signal (K : Dev nD × Fin 41 → ℕ) (c : Dev nD) (j : Fin 7) {l₀ l : List D} (hl : l₀ = dBar (rev j) :: l) {dev : Dev nD} (hdev : dev = peer j c)
    {A : Type} {k : PUnit → Prog (TpuEff nD τ sig (Elt F) Λ₀ .tc) A} {Q : A → sProp 𝕄} :
    recs m K ⊢ iprop(owesL c l₀ -∗ sigKit c j -∗ (owesL c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (dev : Thread nD τ) barS 1) k) Q) := by
  subst hdev hl
  unfold owesL sigKit
  iintro #HR ⟨%W, HO⟩ ⟨Ht, Hp⟩ Hk
  have hp : pcell c (dBar (rev j)) = kcell (peer j c, 40) := by
    show kcell (peer (rev (rev j)) c, 40) = _
    rw [rev_rev]
  iapply (Rounds.wp_signal 𝒱₀ ER (Rd m) (c : Thread nD τ) none (dst := (peer j c : Thread nD τ)) (κ := K (peer j c, 40)) (r := 0)
      (d := dBar (rev j)) (mem_duties m (peer j c) (dBar (rev j))) rfl () (owed c l) (O₀ := owed c (dBar (rev j) :: l)) (by rw [owed_cons, hp]; rfl)) $$ [HO Ht Hp]
  · isplitr; · iapply (recs_inv m K (peer j c, 40)); iexact HR
    isplitl [HO]; · iexact HO
    isplitl [Ht]
    · unfold tok; rw [hp]; iexact Ht
    isplitl [Hp]
    · iapply (show _ ⊢ (Rd m).payload ((peer j c : Thread nD τ), SemLoc.reg barS) 0 (dBar (rev j)) from lend_intro (F := F) c j) $$ Hp
    · iapply (recs_reached m K (peer j c, 40)); iexact HR
  iintro HO
  iapply Hk
  iexists _; iexact HO

theorem op_send (K : Dev nD × Fin 41 → ℕ) (c : Dev nD) (j : Fin 7) (h : Fin 2) {l₀ l : List D} (hl : l₀ = dRecv (rev j) h :: l) {dev : Dev nD} (hdev : dev = peer j c)
    {src dst : Memref sig .tc .vmem S4x1024 .f32} (hsr : src = srcM j h) (hds : dst = dstM (peer j c) (rev j) h)
    {sS sD : DmaSem sig} (hsS : SemLoc.dma sS = semOf c (dSend j h)) (hsD : SemLoc.dma sD = semOf (peer j c) (dRecv (rev j) h))
    {hsc : dst.view.ref.isScScratch = false} {hw1 : src.view.WordExact} {hw2 : dst.view.WordExact}
    {hty : DmaTarget.Typed (nD := nD) .vmem (SemLoc.dma sD) (.remote (dev : Thread nD τ) dst (SemLoc.dma sS) hsc)}
    {A : Type} {k : PUnit → Prog (TpuEff nD τ sig (Elt F) Λ₀ .tc) A} {Q : A → sProp 𝕄} :
    recs m K ⊢ iprop(owesL c l₀ -∗ sendKit c j h -∗ owns (c : Thread nD τ) (srcM j h) (lent j) (val m j h c)
        -∗ some_ (F := F) (peer j c) (dstM (peer j c) (rev j) h) -∗ ((owesL c l ∗ waitKit c (dSend j h)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (dev : Thread nD τ) dst (SemLoc.dma sS) hsc) (SemLoc.dma sD) hw1 hw2 hty) k) Q) := by
  subst hdev hsr hds hl
  unfold owesL sendKit some_
  rw [show (owns (c : Thread nD τ) (srcM j h) (lent j) (val m j h c) : sProp 𝕄)
    = iprop(∃ f, ⌜(srcM j h).view.read (Elt F) f = val m j h c⌝ ∗ ((srcM j h).view.loc (c : Thread nD τ) ↦[(srcM j h).view.set]{lent j} f)) from rfl]
  iintro #HR ⟨%W, HO⟩ ⟨Htr, Hts, Hat⟩ ⟨%fs, %hfs, Hsrc⟩ ⟨%X, Hdst⟩ Hk
  ihave Hd2 := (show owns (peer j c : Thread nD τ) (dstM (peer j c) (rev j) h) fullShare X
    ⊢ (iprop(∃ f, ⌜(dstM (peer j c) (rev j) h).view.read (Elt F) f = X⌝
      ∗ ((dstM (peer j c) (rev j) h).view.loc (peer j c : Thread nD τ) ↦[(dstM (peer j c) (rev j) h).view.set]{fullShare} f)) : sProp 𝕄) from .rfl) $$ Hdst
  icases Hd2 with ⟨%fd, -, Hdst⟩
  have hpr : payee c (dRecv (rev j) h) = peer j c := by show peer (rev (rev j)) c = _; rw [rev_rev]
  have hpc : pcell c (dRecv (rev j) h) = dcell (peer j c) (dRecv (rev j) h) := by unfold pcell; rw [hpr]
  have hcS : (((c : Thread nD τ), SemLoc.dma sS) : GSem nD τ sig) = dcell c (dSend j h) := by rw [hsS]
  have hcD : (((peer j c : Dev nD) : Thread nD τ), SemLoc.dma sD) = dcell (peer j c) (dRecv (rev j) h) := by rw [hsD]
  have hN : (dstM (peer j c) (rev j) h).view.amount (SemLoc.dma sD) = N := by
    exact dst_credit (peer j c) (rev j) h
  iapply (Rounds.wp_send_pointsTo 𝒱₀ ER (Rd m) (c : Thread nD τ) none (c' := (peer j c : Thread nD τ)) (κ₁ := K (c, kSend j h))
      (κ₂ := K (peer j c, kRecv (peer j c) (rev j) h)) (r₁ := 0) (r₂ := 0) (d₁ := dSend j h) (d₂ := dRecv (rev j) h)
      (by rw [hcS]; exact mem_duties m c (dSend j h)) (by rw [hcD]; exact mem_duties m (peer j c) (dRecv (rev j) h)) () () N hN rfl rfl
      (owed c l) (O₀ := owed c (dRecv (rev j) h :: l)) (by rw [hcD, ← hpc, owed_cons, amt_recv]) (q := lent j) (fs := fs) (fd := fd)
      (by
        show _ ⊢ pay m c (dSend j h)
        show _ ⊢ sendPay m c j h
        unfold sendPay; rw [← hfs]; exact owns_intro _ _ _ _)
      (by
        show _ ⊢ pay m (peer j c) (dRecv (rev j) h)
        show _ ⊢ recvPay m (peer j c) (rev j) h
        unfold recvPay; rw [peer_rev]
        refine (owns_intro _ _ _ _).trans (Entails.of_eq ?_)
        rw [View.read_write_univ, hfs, val_rev])) $$ [Hsrc Hdst HO Htr Hts]
  · rw [hcS, hcD]
    isplitr; · iapply (recs_inv m K (c, kSend j h)); iexact HR
    isplitr; · iapply (recs_inv m K (peer j c, kRecv (peer j c) (rev j) h)); iexact HR
    isplitl [Hsrc]; · iexact Hsrc
    isplitl [Hdst]; · iexact Hdst
    isplitl [HO]; · iexact HO
    isplitl [Hts]; · unfold tok; iexact Hts
    isplitr; · iapply (recs_reached m K (c, kSend j h)); iexact HR
    isplitl [Htr]
    · unfold tok; rw [hpc]; iexact Htr
    iapply (recs_reached m K (peer j c, kRecv (peer j c) (rev j) h)); iexact HR
  rw [hcS]
  iintro ⟨Hc, HO⟩
  iapply Hk
  isplitl [HO]; · iexists _; iexact HO
  unfold waitKit
  isplitl [Hc]; · iexact Hc
  iexact Hat

theorem op_copy (K : Dev nD × Fin 41 → ℕ) (c : Dev nD) (i : Fin 4)
    {src : Memref sig .tc .hbm S2x512x512 .f32} {dst : Memref sig .tc .vmem S2x512x512 .f32}
    (hsr : src = xM.slice (chunkR i) (fun _ => rfl)) (hds : dst = xvM.slice (chunkR i) (fun _ => rfl))
    {sD : DmaSem sig} (hsD : SemLoc.dma sD = semOf c (dCp i))
    {hw1 : src.view.WordExact} {hw2 : dst.view.WordExact}
    {hty : DmaTarget.Typed (nD := nD) .hbm (SemLoc.dma sD) (.here (τ := τ) (p := Proc.tc) dst)}
    {A : Type} {k : PUnit → Prog (TpuEff nD τ sig (Elt F) Λ₀ .tc) A} {Q : A → sProp 𝕄} :
    recs m K ⊢ iprop(cpKit c i -∗ owns (c : Thread nD τ) (xM.slice (chunkR i) (fun _ => rfl)) fullShare (xchunk m i c)
        -∗ some_ (F := F) c (xvM.slice (chunkR i) (fun _ => rfl)) -∗ (waitKit c (dCp i) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.here dst) (SemLoc.dma sD) hw1 hw2 hty) k) Q) := by
  subst hsr hds
  unfold cpKit some_
  rw [show (owns (c : Thread nD τ) (xM.slice (chunkR i) (fun _ => rfl)) fullShare (xchunk m i c) : sProp 𝕄)
    = iprop(∃ f, ⌜(xM.slice (chunkR i) (fun _ => rfl)).view.read (Elt F) f = xchunk m i c⌝
      ∗ ((xM.slice (chunkR i) (fun _ => rfl)).view.loc (c : Thread nD τ) ↦[(xM.slice (chunkR i) (fun _ => rfl)).view.set]{fullShare} f)) from rfl]
  iintro #HR ⟨Ht, Hat⟩ ⟨%fs, %hfs, Hsrc⟩ ⟨%X, Hdst⟩ Hk
  ihave Hd2 := (show owns (c : Thread nD τ) (xvM.slice (chunkR i) (fun _ => rfl)) fullShare X
    ⊢ (iprop(∃ f, ⌜(xvM.slice (chunkR i) (fun _ => rfl)).view.read (Elt F) f = X⌝
      ∗ ((xvM.slice (chunkR i) (fun _ => rfl)).view.loc (c : Thread nD τ) ↦[(xvM.slice (chunkR i) (fun _ => rfl)).view.set]{fullShare} f)) : sProp 𝕄) from .rfl) $$ Hdst
  icases Hd2 with ⟨%fd, -, Hdst⟩
  have hcD : (((c : Thread nD τ), SemLoc.dma sD) : GSem nD τ sig) = dcell c (dCp i) := by rw [hsD]
  iapply (Rounds.wp_copy_pointsTo 𝒱₀ ER (Rd m) (c : Thread nD τ) none (κ := K (c, kOf c (dCp i))) (r := 0) (d := dCp i)
      (by rw [hcD]; exact mem_duties m c (dCp i)) () Ncp rfl rfl (q := fullShare) (fs := fs) (fd := fd)
      (by
        show _ ⊢ pay m c (dCp i)
        show _ ⊢ cpPay m c i
        unfold cpPay
        refine BI.sep_mono ((owns_intro _ _ _ _).trans (Entails.of_eq ?_)) ((owns_intro _ _ _ _).trans (Entails.of_eq ?_))
        · rw [View.read_write_univ]; exact congrArg (owns _ _ _) hfs
        · exact congrArg (owns _ _ _) hfs)) $$ [Hsrc Hdst Ht]
  · rw [hcD]
    isplitr; · iapply (recs_inv m K (c, kOf c (dCp i))); iexact HR
    isplitl [Hsrc]; · iexact Hsrc
    isplitl [Hdst]; · iexact Hdst
    isplitl [Ht]; · unfold tok; iexact Ht
    iapply (recs_reached m K (c, kOf c (dCp i))); iexact HR
  rw [hcD]
  iintro Hc
  iapply Hk
  unfold waitKit
  isplitl [Hc]; · iexact Hc
  iexact Hat

/-! ## Loads and stores -/

theorem op_load (c : Dev nD) {s : Shape} {e : EltTy} (M : Memref sig .tc .vmem s e) (r : Rect s) (hr : ∀ a, r.stride a = 1) {q : PosShare TreeShare}
    (X : r.shape.Idx → Elt F e) {hl : M.view.LoadsAt r.toLoadRect}
    {A : Type} {k : (r.shape.Idx → Elt F e) → Prog (TpuEff nD τ sig (Elt F) Λ₀ .tc) A} {Q : A → sProp 𝕄} :
    (owns (c : Thread nD τ) (M.slice r hr) q X : sProp 𝕄)
      ⊢ iprop((owns (c : Thread nD τ) (M.slice r hr) q X -∗ wp frame (wpE (defs₀ (F := F)) 𝒱₀ (c : Thread nD τ) none) Set.univ (k X) Q)
        -∗ wp frame (wpE (defs₀ (F := F)) 𝒱₀ (c : Thread nD τ) none) Set.univ (.op (.load M r.toLoadRect hl) k) Q) := by
  iintro H Hk
  ihave H2 := (show owns (c : Thread nD τ) (M.slice r hr) q X
    ⊢ (iprop(∃ f, ⌜(M.slice r hr).view.read (Elt F) f = X⌝ ∗ ((M.slice r hr).view.loc (c : Thread nD τ) ↦[(M.slice r hr).view.set]{q} f)) : sProp 𝕄) from .rfl) $$ H
  icases H2 with ⟨%f, %hf, H⟩
  iapply (wp_load_rect 𝒱₀ (c : Thread nD τ) none Set.univ (m := M) (r := r) (S := (M.slice r hr).view.set) (f := f) subset_rfl) $$ H
  iintro H
  rw [show (M.access r).read (Elt F) f = X from hf]
  iapply Hk
  rw [← hf]
  iapply (owns_intro (c : Thread nD τ) (M.slice r hr) q f) $$ H

theorem op_store (c : Dev nD) {s : Shape} {e : EltTy} (M : Memref sig .tc .vmem s e) (r : Rect s) (hr : ∀ a, r.stride a = 1)
    (X w : r.shape.Idx → Elt F e) {hx : (M.access r).Stores Finset.univ} {hm : Finset.univ = Finset.univ ∨ ∀ a, r.stride a = 1}
    {A : Type} {k : PUnit → Prog (TpuEff nD τ sig (Elt F) Λ₀ .tc) A} {Q : A → sProp 𝕄} :
    (owns (c : Thread nD τ) (M.slice r hr) fullShare X : sProp 𝕄)
      ⊢ iprop((owns (c : Thread nD τ) (M.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  iintro H Hk
  ihave H2 := (show owns (c : Thread nD τ) (M.slice r hr) fullShare X
    ⊢ (iprop(∃ f, ⌜(M.slice r hr).view.read (Elt F) f = X⌝ ∗ ((M.slice r hr).view.loc (c : Thread nD τ) ↦[(M.slice r hr).view.set]{fullShare} f)) : sProp 𝕄) from .rfl) $$ H
  icases H2 with ⟨%f, -, H⟩
  iapply (wp_store 𝒱₀ (c : Thread nD τ) none Set.univ (m := M) (r := r) (w := w) (Mk := Finset.univ) (S := (M.slice r hr).view.set) (f := f) subset_rfl) $$ H
  iintro H
  iapply Hk
  iapply ((owns_intro (c : Thread nD τ) (M.slice r hr) fullShare ((M.access r).write (Elt F) f w Finset.univ)).trans
    (Entails.of_eq (congrArg (owns (c : Thread nD τ) (M.slice r hr) fullShare) (View.read_write_univ f w)))) $$ H

/-- A load of everything, -/
theorem op_load_all (c : Dev nD) {s : Shape} {e : EltTy} (M : Memref sig .tc .vmem s e) (off : Fin s.rank → ℕ) (hz : off = fun _ => 0) {inb}
    {q : PosShare TreeShare} (X : s.Idx → Elt F e) {hl : M.view.LoadsAt (Rect.unit (s := s) off s.size inb).toLoadRect}
    {A : Type} {k : (s.Idx → Elt F e) → Prog (TpuEff nD τ sig (Elt F) Λ₀ .tc) A} {Q : A → sProp 𝕄} :
    (owns (c : Thread nD τ) M q X : sProp 𝕄)
      ⊢ iprop((owns (c : Thread nD τ) M q X -∗ wp frame (wpE (defs₀ (F := F)) 𝒱₀ (c : Thread nD τ) none) Set.univ (k X) Q)
        -∗ wp frame (wpE (defs₀ (F := F)) 𝒱₀ (c : Thread nD τ) none) Set.univ
          (.op (.load M (Rect.unit (s := s) off s.size inb).toLoadRect hl) k) Q) := by
  subst hz
  iintro H Hk
  ihave H2 := (show owns (c : Thread nD τ) M q X
    ⊢ (iprop(∃ f, ⌜M.view.read (Elt F) f = X⌝ ∗ (M.view.loc (c : Thread nD τ) ↦[M.view.set]{q} f)) : sProp 𝕄) from .rfl) $$ H
  icases H2 with ⟨%f, %hf, H⟩
  have he : ∀ i : s.Idx, (Rect.unit (s := s) (fun _ => 0) s.size inb).emb i = i := fun i => funext fun a => Fin.ext (by
    show 0 + 1 * (i a).val = (i a).val; omega)
  iapply (wp_load_rect 𝒱₀ (c : Thread nD τ) none Set.univ (m := M) (r := Rect.unit (s := s) (fun _ => 0) s.size inb) (S := M.view.set) (f := f)
    (View.set_slice_subset _ _)) $$ H
  iintro H
  have hr : (M.access (Rect.unit (s := s) (fun _ => 0) s.size inb)).read (Elt F) f = X := by
    rw [← hf]
    funext i
    exact congrArg (M.view.read (Elt F) f) (he i)
  rw [hr]
  iapply Hk
  rw [← hf]
  iapply (owns_intro (c : Thread nD τ) M q f) $$ H

end Cert.KernelIdeal.Stats
end
-- ==== Proof.Regions.lean ====
/-
The parts of the buffers: how a buffer, or a rectangle of one, is its pieces, and back.
-/
module

public import proofs.«01_k».proof.Proof.Ops

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Any rectangles of any memref -/

section General
variable (c : Dev nD) {sp : Space} {sh : Shape} {e : EltTy} (M : Memref sig .tc sp sh e) (q : PosShare TreeShare)
variable {T : Type} [Fintype T] [DecidableEq T] (r : T → Rect sh) (hr : ∀ t a, (r t).stride a = 1)

omit [FloatOps F] [Fintype T] [DecidableEq T] in
/-- Contents given piece by piece on disjoint rectangles are those of one array. -/
theorem glue (hd : ∀ t t', t ≠ t' → Disjoint (r t).set (r t').set) (Y : (t : T) → (r t).shape.Idx → Elt F e) [Nonempty (Elt F e)] :
    ∃ X : sh.Idx → Elt F e, ∀ t j, X ((r t).emb j) = Y t j := by
  classical
  refine ⟨fun i => if h : ∃ p : (t : T) × (r t).shape.Idx, (r p.1).emb p.2 = i then Y h.choose.1 h.choose.2 else Classical.arbitrary _, fun t j => ?_⟩
  have h : ∃ p : (t : T) × (r t).shape.Idx, (r p.1).emb p.2 = (r t).emb j := ⟨⟨t, j⟩, rfl⟩
  show (if h : ∃ p : (t : T) × (r t).shape.Idx, (r p.1).emb p.2 = (r t).emb j then Y h.choose.1 h.choose.2 else Classical.arbitrary _) = Y t j
  rw [dif_pos h]
  have hs := h.choose_spec
  generalize h.choose = p at hs ⊢
  obtain ⟨t', j'⟩ := p
  dsimp only at hs ⊢
  by_cases ht : t' = t
  · subst ht
    rw [(r t').emb.injective hs]
  · have h1 : (r t).emb j ∈ (r t).set := (Rect.map_emb_univ (r t)) ▸ Finset.mem_map_of_mem _ (Finset.mem_univ j)
    have h2 : (r t').emb j' ∈ (r t').set := (Rect.map_emb_univ (r t')) ▸ Finset.mem_map_of_mem _ (Finset.mem_univ j')
    rw [← hs] at h1
    exact absurd h1 (Finset.disjoint_left.mp (hd t' t ht) h2)

omit [FloatOps F] in
/-- Pieces at any contents are the whole at some. -/
theorem join_any (hd : ∀ t t', t ≠ t' → Disjoint (r t).set (r t').set) (hcov : Finset.univ.biUnion (fun t => (r t).set) = Finset.univ)
    [∀ e, Nonempty (Elt F e)] :
    (bigSep Finset.univ fun t => (iprop(∃ X : (r t).shape.Idx → Elt F e, owns (c : Thread nD τ) (M.slice (r t) (hr t)) q X) : sProp 𝕄))
      ⊢ iprop(∃ X : sh.Idx → Elt F e, owns (c : Thread nD τ) M q X) := by
  refine (Idealize.SL.BI.bigSep_exists_pi Finset.univ _).trans ?_
  iintro ⟨%Y, H⟩
  obtain ⟨X, hX⟩ := glue r hd Y
  iexists X
  iapply (owns_of_rects (c : Thread nD τ) M q r hr hd hcov X)
  have e : (fun t => (owns (c : Thread nD τ) (M.slice (r t) (hr t)) q (fun j => X ((r t).emb j)) : sProp 𝕄))
      = fun t => owns (c : Thread nD τ) (M.slice (r t) (hr t)) q (Y t) := funext fun t => congrArg _ (funext (hX t))
  rw [e]
  iexact H

omit [FloatOps F] in
/-- The whole at some contents is its pieces at some. -/
theorem split_any (hd : ∀ t t', t ≠ t' → Disjoint (r t).set (r t').set) (hcov : Finset.univ.biUnion (fun t => (r t).set) = Finset.univ) :
    (iprop(∃ X : sh.Idx → Elt F e, owns (c : Thread nD τ) M q X) : sProp 𝕄)
      ⊢ bigSep Finset.univ fun t => (iprop(∃ X : (r t).shape.Idx → Elt F e, owns (c : Thread nD τ) (M.slice (r t) (hr t)) q X) : sProp 𝕄) := by
  iintro ⟨%X, H⟩
  ihave H := (owns_rects (c : Thread nD τ) M q r hr hd hcov X) $$ H
  have hm : (bigSep Finset.univ fun t => (owns (c : Thread nD τ) (M.slice (r t) (hr t)) q (fun j => X ((r t).emb j)) : sProp 𝕄))
      ⊢ bigSep Finset.univ fun t => iprop(∃ X : (r t).shape.Idx → Elt F e, owns (c : Thread nD τ) (M.slice (r t) (hr t)) q X) :=
    bigSep_mono fun t _ => (show (owns (c : Thread nD τ) (M.slice (r t) (hr t)) q (fun j => X ((r t).emb j)) : sProp 𝕄)
      ⊢ iprop(∃ X : (r t).shape.Idx → Elt F e, owns (c : Thread nD τ) (M.slice (r t) (hr t)) q X) from by iintro H; iexists _; iexact H)
  iapply hm $$ H

omit [FloatOps F] in
/-- Rectangles that together are one rectangle: their pieces, with contents that agree with its, are it; -/
theorem join_rect (hd : ∀ t t', t ≠ t' → Disjoint (r t).set (r t').set) (r0 : Rect sh) (hr0 : ∀ a, r0.stride a = 1) (S : Finset T)
    (hS : S.biUnion (fun t => (r t).set) = r0.set) (Y : (t : T) → (r t).shape.Idx → Elt F e) (Y0 : r0.shape.Idx → Elt F e)
    (hY : ∀ t ∈ S, ∀ j j0, (r t).emb j = r0.emb j0 → Y t j = Y0 j0) [∀ e, Nonempty (Elt F e)] :
    (bigSep S fun t => (owns (c : Thread nD τ) (M.slice (r t) (hr t)) q (Y t) : sProp 𝕄)) ⊢ owns (c : Thread nD τ) (M.slice r0 hr0) q Y0 := by
  obtain ⟨X, hX⟩ := glue r hd Y
  have e : (fun t => (owns (c : Thread nD τ) (M.slice (r t) (hr t)) q (Y t) : sProp 𝕄))
      = fun t => owns (c : Thread nD τ) (M.slice (r t) (hr t)) q (fun j => X ((r t).emb j)) := funext fun t => congrArg _ (funext (hX t)).symm
  rw [e]
  refine (owns_rects_join (c : Thread nD τ) M q r hr hd X S).trans ?_
  iintro ⟨%g, %hg, H⟩
  have hset : S.biUnion (fun t => (M.view.slice (r t)).set) = (M.view.slice r0).set := by
    rw [View.set_slice, ← hS, Finset.map_eq_image, Finset.biUnion_image]
    exact Finset.biUnion_congr rfl fun t _ => by rw [View.set_slice, Finset.map_eq_image]
  have e : Y0 = fun j => M.view.read (Elt F) g (r0.emb j) := by
    funext j0
    have hj : r0.emb j0 ∈ r0.set := (Rect.map_emb_univ r0) ▸ Finset.mem_map_of_mem _ (Finset.mem_univ j0)
    rw [← hS] at hj
    obtain ⟨t, ht, hjt⟩ := Finset.mem_biUnion.mp hj
    obtain ⟨j, hj⟩ := LoadRect.exists_idx_of_mem _ hjt
    have hj' : (r t).emb j = r0.emb j0 := hj
    rw [← hY t ht j j0 hj', ← hX, ← hg t ht j, hj']
  rw [e, owns_slice_read (c : Thread nD τ) M q r0 hr0 g, ← hset]
  iexact H

omit [FloatOps F] in
/-- and it is its pieces. -/
theorem split_rect (hd : ∀ t t', t ≠ t' → Disjoint (r t).set (r t').set) (r0 : Rect sh) (hr0 : ∀ a, r0.stride a = 1) (S : Finset T)
    (hS : S.biUnion (fun t => (r t).set) = r0.set) (Y : (t : T) → (r t).shape.Idx → Elt F e) (Y0 : r0.shape.Idx → Elt F e)
    (hY : ∀ t ∈ S, ∀ j j0, (r t).emb j = r0.emb j0 → Y t j = Y0 j0) :
    (owns (c : Thread nD τ) (M.slice r0 hr0) q Y0 : sProp 𝕄) ⊢ bigSep S fun t => (owns (c : Thread nD τ) (M.slice (r t) (hr t)) q (Y t) : sProp 𝕄) := by
  have hset : S.biUnion (fun t => (M.view.slice (r t)).set) = (M.view.slice r0).set := by
    rw [View.set_slice, ← hS, Finset.map_eq_image, Finset.biUnion_image]
    exact Finset.biUnion_congr rfl fun t _ => by rw [View.set_slice, Finset.map_eq_image]
  unfold owns
  iintro ⟨%g, %hg, H⟩
  have H0 : ∀ t ∈ S, (M.slice (r t) (hr t)).view.read (Elt F) g = Y t := by
    intro t ht
    funext j
    have hj : (r t).emb j ∈ r0.set := by
      rw [← hS]
      exact Finset.mem_biUnion.mpr ⟨t, ht, (Rect.map_emb_univ (r t)) ▸ Finset.mem_map_of_mem _ (Finset.mem_univ j)⟩
    obtain ⟨j0, hj0⟩ := LoadRect.exists_idx_of_mem _ hj
    have hj0' : r0.emb j0 = (r t).emb j := hj0
    rw [hY t ht j j0 hj0'.symm, ← hg]
    show M.view.read (Elt F) g ((r t).emb j) = M.view.read (Elt F) g (r0.emb j0)
    rw [hj0']
  have hdd : ∀ t ∈ S, ∀ t' ∈ S, t ≠ t' → Disjoint (M.view.slice (r t)).set (M.view.slice (r t')).set := fun t _ t' _ htt => by
    rw [View.set_slice, View.set_slice]; exact (Finset.disjoint_map _).mpr (hd t t' htt)
  have hm : (bigSep S fun t => (M.view.loc (c : Thread nD τ) ↦[(M.view.slice (r t)).set]{q} g : sProp 𝕄))
      ⊢ bigSep S fun t => iprop(∃ f, ⌜(M.slice (r t) (hr t)).view.read (Elt F) f = Y t⌝
        ∗ ((M.slice (r t) (hr t)).view.loc (c : Thread nD τ) ↦[(M.slice (r t) (hr t)).view.set]{q} f)) :=
    bigSep_mono fun t ht => (show (M.view.loc (c : Thread nD τ) ↦[(M.view.slice (r t)).set]{q} g : sProp 𝕄)
      ⊢ iprop(∃ f, ⌜(M.slice (r t) (hr t)).view.read (Elt F) f = Y t⌝
        ∗ ((M.slice (r t) (hr t)).view.loc (c : Thread nD τ) ↦[(M.slice (r t) (hr t)).view.set]{q} f)) from by
      iintro H
      iexists g
      isplitr
      · ipureintro; exact H0 t ht
      · iexact H)
  iapply hm
  have e : (M.view.loc (c : Thread nD τ) ↦[(M.view.slice r0).set]{q} g : sProp 𝕄)
      = bigSep S fun t => (M.view.loc (c : Thread nD τ) ↦[(M.view.slice (r t)).set]{q} g) := by
    rw [← hset]; exact pointsTo_biUnion S _ hdd
  rw [← e]
  iexact H

end General

/-! ## The buffers' rectangles -/

theorem chunk_disj (t t' : Fin 4) (h : t ≠ t') : Disjoint (chunkR t).set (chunkR t').set :=
  Rect.unit_disjoint (1 : Fin 3) (by have := Fin.val_ne_of_ne h; show 512 * t.val + 512 ≤ 512 * t'.val ∨ 512 * t'.val + 512 ≤ 512 * t.val; omega)
theorem chunk_cov : Finset.univ.biUnion (fun t => (chunkR t).set) = Finset.univ := by
  refine Finset.eq_univ_iff_forall.mpr fun i => Finset.mem_biUnion.mpr ?_
  have h1 : (i 1).val < 2048 := (i 1).isLt
  refine ⟨⟨(i 1).val / 512, by omega⟩, Finset.mem_univ _, Rect.mem_set_unit.mpr fun a => ?_⟩
  match a with
  | ⟨0, _⟩ => exact ⟨Nat.zero_le _, by have : (i 0).val < 2 := (i 0).isLt; show (i 0).val < 0 + 2; omega⟩
  | ⟨1, _⟩ => show 512 * ((i 1).val / 512) ≤ (i 1).val ∧ (i 1).val < 512 * ((i 1).val / 512) + 512; omega
  | ⟨2, _⟩ => exact ⟨Nat.zero_le _, by have : (i 2).val < 512 := (i 2).isLt; show (i 2).val < 0 + 512; omega⟩

theorem half_disj (t t' : Fin 2) (h : t ≠ t') : Disjoint (halfR t).set (halfR t').set :=
  Rect.unit_disjoint (1 : Fin 2) (by have := Fin.val_ne_of_ne h; show 1024 * t.val + 1024 ≤ 1024 * t'.val ∨ 1024 * t'.val + 1024 ≤ 1024 * t.val; omega)
theorem half_cov : Finset.univ.biUnion (fun t => (halfR t).set) = Finset.univ := by
  refine Finset.eq_univ_iff_forall.mpr fun i => Finset.mem_biUnion.mpr ?_
  have h1 : (i 1).val < 2048 := (i 1).isLt
  refine ⟨⟨(i 1).val / 1024, by omega⟩, Finset.mem_univ _, Rect.mem_set_unit.mpr fun a => ?_⟩
  match a with
  | ⟨0, _⟩ => exact ⟨Nat.zero_le _, by have : (i 0).val < 4 := (i 0).isLt; show (i 0).val < 0 + 4; omega⟩
  | ⟨1, _⟩ => show 1024 * ((i 1).val / 1024) ≤ (i 1).val ∧ (i 1).val < 1024 * ((i 1).val / 1024) + 1024; omega

theorem quart_disj (t t' : Fin 4) (h : t ≠ t') : Disjoint (quartR t).set (quartR t').set :=
  Rect.unit_disjoint (1 : Fin 2) (by have := Fin.val_ne_of_ne h; show 512 * t.val + 512 ≤ 512 * t'.val ∨ 512 * t'.val + 512 ≤ 512 * t.val; omega)
/-- Two quarters are a half. -/
abbrev qs (h : Fin 2) : Finset (Fin 4) := {⟨2 * h.val, by omega⟩, ⟨2 * h.val + 1, by omega⟩}
theorem mem_qs (h : Fin 2) (t : Fin 4) : t ∈ qs h ↔ t.val / 2 = h.val := by revert h t; decide
theorem quart_half (h : Fin 2) : (qs h).biUnion (fun t => (quartR t).set) = (halfR h).set := by
  ext i
  have h0 : (i 0).val < 4 := (i 0).isLt
  have h1 : (i 1).val < 2048 := (i 1).isLt
  rw [Finset.mem_biUnion, Rect.mem_set_unit]
  constructor
  · rintro ⟨t, ht, hi⟩
    rw [mem_qs] at ht
    have hi1 := Rect.mem_set_unit.mp hi 1
    change 512 * t.val ≤ (i 1).val ∧ (i 1).val < 512 * t.val + 512 at hi1
    intro a
    match a with
    | ⟨0, _⟩ => exact ⟨Nat.zero_le _, by show (i 0).val < 0 + 4; omega⟩
    | ⟨1, _⟩ => show 1024 * h.val ≤ (i 1).val ∧ (i 1).val < 1024 * h.val + 1024; omega
  · intro hi
    have hi1 := hi 1
    change 1024 * h.val ≤ (i 1).val ∧ (i 1).val < 1024 * h.val + 1024 at hi1
    refine ⟨⟨(i 1).val / 512, by omega⟩, (mem_qs _ _).mpr (by show (i 1).val / 512 / 2 = h.val; omega), Rect.mem_set_unit.mpr fun a => ?_⟩
    match a with
    | ⟨0, _⟩ => exact ⟨Nat.zero_le _, by show (i 0).val < 0 + 4; omega⟩
    | ⟨1, _⟩ => show 512 * ((i 1).val / 512) ≤ (i 1).val ∧ (i 1).val < 512 * ((i 1).val / 512) + 512; omega

/-- Half of the rows of `x`, -/
abbrev xhalfR (h : Fin 2) : Rect S2x2048x512 :=
  Rect.unit (s := S2x2048x512) ![0, 1024 * h.val, 0] S2x1024x512.size (by revert h; decide)
theorem xhalf_disj (t t' : Fin 2) (h : t ≠ t') : Disjoint (xhalfR t).set (xhalfR t').set :=
  Rect.unit_disjoint (1 : Fin 3) (by have := Fin.val_ne_of_ne h; show 1024 * t.val + 1024 ≤ 1024 * t'.val ∨ 1024 * t'.val + 1024 ≤ 1024 * t.val; omega)
theorem xhalf_cov : Finset.univ.biUnion (fun t => (xhalfR t).set) = Finset.univ := by
  refine Finset.eq_univ_iff_forall.mpr fun i => Finset.mem_biUnion.mpr ?_
  have h1 : (i 1).val < 2048 := (i 1).isLt
  refine ⟨⟨(i 1).val / 1024, by omega⟩, Finset.mem_univ _, Rect.mem_set_unit.mpr fun a => ?_⟩
  match a with
  | ⟨0, _⟩ => exact ⟨Nat.zero_le _, by have : (i 0).val < 2 := (i 0).isLt; show (i 0).val < 0 + 2; omega⟩
  | ⟨1, _⟩ => show 1024 * ((i 1).val / 1024) ≤ (i 1).val ∧ (i 1).val < 1024 * ((i 1).val / 1024) + 1024; omega
  | ⟨2, _⟩ => exact ⟨Nat.zero_le _, by have : (i 2).val < 512 := (i 2).isLt; show (i 2).val < 0 + 512; omega⟩

/-- and half of the columns of the four slots of a landing buffer. -/
abbrev bigR (h : Fin 2) : Rect S4x4x2048 :=
  Rect.unit (s := S4x4x2048) ![0, 0, 1024 * h.val] S4x4x1024.size (by revert h; decide)
theorem big_disj (t t' : Fin 2) (h : t ≠ t') : Disjoint (bigR t).set (bigR t').set :=
  Rect.unit_disjoint (2 : Fin 3) (by have := Fin.val_ne_of_ne h; show 1024 * t.val + 1024 ≤ 1024 * t'.val ∨ 1024 * t'.val + 1024 ≤ 1024 * t.val; omega)
theorem big_cov : Finset.univ.biUnion (fun t => (bigR t).set) = Finset.univ := by
  refine Finset.eq_univ_iff_forall.mpr fun i => Finset.mem_biUnion.mpr ?_
  have h1 : (i 2).val < 2048 := (i 2).isLt
  refine ⟨⟨(i 2).val / 1024, by omega⟩, Finset.mem_univ _, Rect.mem_set_unit.mpr fun a => ?_⟩
  match a with
  | ⟨0, _⟩ => exact ⟨Nat.zero_le _, by have : (i 0).val < 4 := (i 0).isLt; show (i 0).val < 0 + 4; omega⟩
  | ⟨1, _⟩ => exact ⟨Nat.zero_le _, by have : (i 1).val < 4 := (i 1).isLt; show (i 1).val < 0 + 4; omega⟩
  | ⟨2, _⟩ => show 1024 * ((i 2).val / 1024) ≤ (i 2).val ∧ (i 2).val < 1024 * ((i 2).val / 1024) + 1024; omega
theorem slot_disj (h : Fin 2) (t t' : Fin 4) (e : t ≠ t') : Disjoint (slotR t h).set (slotR t' h).set :=
  Rect.unit_disjoint (0 : Fin 3) (by have := Fin.val_ne_of_ne e; show t.val + 1 ≤ t'.val ∨ t'.val + 1 ≤ t.val; omega)
theorem slot_big (h : Fin 2) : Finset.univ.biUnion (fun t => (slotR t h).set) = (bigR h).set := by
  ext i
  have h0 : (i 0).val < 4 := (i 0).isLt
  have h1 : (i 1).val < 4 := (i 1).isLt
  rw [Finset.mem_biUnion, Rect.mem_set_unit]
  constructor
  · rintro ⟨t, -, hi⟩
    have hi1 := Rect.mem_set_unit.mp hi 2
    change 1024 * h.val ≤ (i 2).val ∧ (i 2).val < 1024 * h.val + 1024 at hi1
    intro a
    match a with
    | ⟨0, _⟩ => exact ⟨Nat.zero_le _, by show (i 0).val < 0 + 4; omega⟩
    | ⟨1, _⟩ => exact ⟨Nat.zero_le _, by show (i 1).val < 0 + 4; omega⟩
    | ⟨2, _⟩ => exact hi1
  · intro hi
    have hi1 := hi 2
    change 1024 * h.val ≤ (i 2).val ∧ (i 2).val < 1024 * h.val + 1024 at hi1
    refine ⟨i 0, Finset.mem_univ _, Rect.mem_set_unit.mpr fun a => ?_⟩
    match a with
    | ⟨0, _⟩ => show (i 0).val ≤ (i 0).val ∧ (i 0).val < (i 0).val + 1; omega
    | ⟨1, _⟩ => exact ⟨Nat.zero_le _, by show (i 1).val < 0 + 4; omega⟩
    | ⟨2, _⟩ => exact hi1

/-! ## A slot with and without its leading axis -/

/-- A half's statistics with the slot's leading axis. -/
abbrev unsq (X : Vec F S4x1024 .f32) : Vec F S1x4x1024 .f32 := k0_pay9 X

theorem unsq_apply (X : Vec F S4x1024 .f32) (k : S1x4x1024.Idx) : unsq X k = X (fun a => k a.succ) := by
  unfold unsq k0_pay9
  rw [shapeCast_self]
  exact shapeCast_addUnit_apply _ _ _ _

theorem unsq_cast (X : Vec F S1x4x1024 .f32) : unsq (shapeCast S4x1024 X (by decide)) = X := by
  unfold unsq k0_pay9
  dsimp only
  rw [shapeCast_self, shapeCast_shapeCast]
theorem cast_unsq (X : Vec F S4x1024 .f32) : shapeCast S4x1024 (unsq X) (by decide) = X := by
  unfold unsq k0_pay9
  dsimp only
  rw [shapeCast_self, shapeCast_shapeCast]

/-- The slot without its leading axis is the slot. -/
theorem owns_unsq (c : Dev nD) (b : Memref sig .tc .vmem S4x4x2048 .f32) (o : Fin 4) (h : Fin 2) (q : PosShare TreeShare) (X : Vec F S4x1024 .f32) :
    (owns (c : Thread nD τ) (slotM b o h) q X : sProp 𝕄) = owns (c : Thread nD τ) (b.slice (slotR o h) (fun _ => rfl)) q (unsq X) := by
  have hset : (slotM b o h).view.set = (b.slice (slotR o h) (fun _ => rfl)).view.set := View.set_reshape _ _
  have h1 : (owns (c : Thread nD τ) (slotM b o h) q X : sProp 𝕄) ⊢ owns (c : Thread nD τ) (b.slice (slotR o h) (fun _ => rfl)) q (unsq X) := by
    unfold owns
    iintro ⟨%f, %hf, H⟩
    iexists f
    isplitr
    · ipureintro
      rw [← hf]
      exact (unsq_cast _).symm
    · rw [← hset]; iexact H
  have h2 : (owns (c : Thread nD τ) (b.slice (slotR o h) (fun _ => rfl)) q (unsq X) : sProp 𝕄) ⊢ owns (c : Thread nD τ) (slotM b o h) q X := by
    unfold owns
    iintro ⟨%f, %hf, H⟩
    iexists f
    isplitr
    · ipureintro
      exact (congrArg (fun Z : Vec F S1x4x1024 .f32 => shapeCast S4x1024 Z (by decide)) hf).trans (cast_unsq X)
    · rw [hset]; iexact H
  exact BI.equiv_iff.mp ⟨h1, h2⟩

/-- The four slots' halves with their contents are the buffer's half with the four side by side; -/
theorem slots_join (c : Dev nD) (b : Memref sig .tc .vmem S4x4x2048 .f32) (h : Fin 2) (q : PosShare TreeShare) (X : Fin 4 → Vec F S4x1024 .f32) :
    (bigSep Finset.univ fun o => (owns (c : Thread nD τ) (b.slice (slotR o h) (fun _ => rfl)) q (unsq (X o)) : sProp 𝕄))
      ⊢ owns (c : Thread nD τ) (b.slice (bigR h) (fun _ => rfl)) q (stack4 X) := by
  refine join_rect c b q (fun o => slotR o h) (fun _ _ => rfl) (slot_disj h) (bigR h) (fun _ => rfl) Finset.univ (slot_big h)
    (fun o => unsq (X o)) (stack4 X) fun o _ j j0 hj => ?_
  have e0 : o.val + 1 * (j 0).val = 0 + 1 * (j0 0).val := congrArg (fun i : S4x4x2048.Idx => (i 0).val) hj
  have e1 : 0 + 1 * (j 1).val = 0 + 1 * (j0 1).val := congrArg (fun i : S4x4x2048.Idx => (i 1).val) hj
  have e2 : 1024 * h.val + 1 * (j 2).val = 1024 * h.val + 1 * (j0 2).val := congrArg (fun i : S4x4x2048.Idx => (i 2).val) hj
  have z : (j 0).val < 1 := (j 0).isLt
  rw [unsq_apply]
  unfold stack4
  have eo : o = j0 0 := Fin.ext (show o.val = (j0 0).val by omega)
  rw [eo]
  refine congrArg _ (funext fun a => Fin.ext ?_)
  match a with
  | 0 => show (j 1).val = (j0 1).val; omega
  | 1 => show (j 2).val = (j0 2).val; omega

end Cert.KernelIdeal.Stats
end
-- ==== Proof.Steps.lean ====
/-
The steps of the body as it meets them: a store over what it first reads, a slot named by a computed offset, and how the
pieces it holds come together before a load and after the last wait.
-/
module

public import proofs.«01_k».proof.Proof.Regions
public import Idealize.ShloMosaic.Lib.MemrefSat

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Stores -/

/-- The body reads every rectangle it is about to store, and drops what it read. -/
theorem op_put (c : Dev nD) {s : Shape} {e : EltTy} (M : Memref sig .tc .vmem s e) (r : Rect s) (hr : ∀ a, r.stride a = 1)
    (w : r.shape.Idx → Elt F e) {hl : M.view.LoadsAt r.toLoadRect} {hx : (M.access r).Stores Finset.univ}
    {hm : Finset.univ = Finset.univ ∨ ∀ a, r.stride a = 1}
    {A : Type} {k : PUnit → Prog (TpuEff nD τ sig (Elt F) Λ₀ .tc) A} {Q : A → sProp 𝕄} :
    (iprop(∃ X : r.shape.Idx → Elt F e, owns (c : Thread nD τ) (M.slice r hr) fullShare X) : sProp 𝕄)
      ⊢ iprop((owns (c : Thread nD τ) (M.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.load M r.toLoadRect hl) fun _ => .op (.store M r w Finset.univ hx hm) k) Q) := by
  iintro ⟨%X, H⟩ Hk
  iapply (op_load c M r hr X) $$ H
  iintro H
  iapply (op_store c M r hr X w) $$ H
  iexact Hk

theorem op_put_some (c : Dev nD) {s : Shape} (M : Memref sig .tc .vmem s .f32) (r : Rect s) (hr : ∀ a, r.stride a = 1)
    (w : r.shape.Idx → Elt F .f32) {hl : M.view.LoadsAt r.toLoadRect} {hx : (M.access r).Stores Finset.univ}
    {hm : Finset.univ = Finset.univ ∨ ∀ a, r.stride a = 1}
    {A : Type} {k : PUnit → Prog (TpuEff nD τ sig (Elt F) Λ₀ .tc) A} {Q : A → sProp 𝕄} :
    (some_ c (M.slice r hr) : sProp 𝕄)
      ⊢ iprop((owns (c : Thread nD τ) (M.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.load M r.toLoadRect hl) fun _ => .op (.store M r w Finset.univ hx hm) k) Q) :=
  op_put c M r hr w

/-- Of a landing buffer's slot, at an offset the kernel computed. -/
theorem op_put_slot (c : Dev nD) (b : Memref sig .tc .vmem S4x4x2048 .f32) (o : Fin 4) (h : Fin 2) {off : Fin 3 → ℕ} (ho : off = offM o h)
    {inb} (w : Vec F S1x4x1024 .f32) {hl : b.view.LoadsAt (Rect.unit (s := S4x4x2048) off S1x4x1024.size inb).toLoadRect}
    {hx : (b.access (Rect.unit (s := S4x4x2048) off S1x4x1024.size inb)).Stores Finset.univ}
    {hm : Finset.univ = Finset.univ ∨ ∀ a, (Rect.unit (s := S4x4x2048) off S1x4x1024.size inb).stride a = 1}
    {A : Type} {k : PUnit → Prog (TpuEff nD τ sig (Elt F) Λ₀ .tc) A} {Q : A → sProp 𝕄} :
    (some_ c (b.slice (slotR o h) (fun _ => rfl)) : sProp 𝕄)
      ⊢ iprop((owns (c : Thread nD τ) (b.slice (slotR o h) (fun _ => rfl)) fullShare w
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load b (Rect.unit (s := S4x4x2048) off S1x4x1024.size inb).toLoadRect hl)
            fun _ => .op (.store b (Rect.unit (s := S4x4x2048) off S1x4x1024.size inb) w Finset.univ hx hm) k) Q) := by
  subst ho
  exact op_put_some c b (slotR o h) (fun _ => rfl) w

/-! ## The semaphores and slots of the transfers along `y` and `z` -/

theorem slot_eq (b : Memref sig .tc .vmem S4x4x2048 .f32) (o : Fin 4) (h : Fin 2) {off : Fin 3 → ℕ} (ho : off = offM o h) {inb} :
    (b.slice (Rect.unit (s := S4x4x2048) off S1x4x1024.size inb) (fun _ => rfl)).squeeze S4x1024 squeezes_S1x4x1024_S4x1024 = slotM b o h := by
  subst ho; rfl

theorem dst_y (c : Dev nD) (j : Fin 7) (h : Fin 2) (hj : j = 1 ∨ j = 2 ∨ j = 3) {off : Fin 3 → ℕ} (ho : off = offM (yc c) h) {inb} :
    (bufyM.slice (Rect.unit (s := S4x4x2048) off S1x4x1024.size inb) (fun _ => rfl)).squeeze S4x1024 squeezes_S1x4x1024_S4x1024
      = dstM (peer j c) (rev j) h := by
  rw [slot_eq bufyM (yc c) h ho]
  rcases hj with rfl | rfl | rfl
  · show _ = slotM bufyM (slot (peer 1 c) (rev 1)) h; rw [(slot_peer c).1]
  · show _ = slotM bufyM (slot (peer 2 c) (rev 2)) h; rw [(slot_peer c).2.1]
  · show _ = slotM bufyM (slot (peer 3 c) (rev 3)) h; rw [(slot_peer c).2.2.1]

theorem dst_z (c : Dev nD) (j : Fin 7) (h : Fin 2) (hj : j = 4 ∨ j = 5 ∨ j = 6) {off : Fin 3 → ℕ} (ho : off = offM (zc c) h) {inb} :
    (bufzM.slice (Rect.unit (s := S4x4x2048) off S1x4x1024.size inb) (fun _ => rfl)).squeeze S4x1024 squeezes_S1x4x1024_S4x1024
      = dstM (peer j c) (rev j) h := by
  rw [slot_eq bufzM (zc c) h ho]
  rcases hj with rfl | rfl | rfl
  · show _ = slotM bufzM (slot (peer 4 c) (rev 4)) h; rw [(slot_peer c).2.2.2.1]
  · show _ = slotM bufzM (slot (peer 5 c) (rev 5)) h; rw [(slot_peer c).2.2.2.2.1]
  · show _ = slotM bufzM (slot (peer 6 c) (rev 6)) h; rw [(slot_peer c).2.2.2.2.2]

theorem csem_lt (n : ℕ) (hn : n < 40) (h) : csem ⟨n, h⟩ = .dma (⟨n + 4, by show _ < 44; omega⟩ : DmaSem sig) := dif_pos hn

/-- Where partner `j` of the `y` line lands, -/
theorem sem_ry (c : Dev nD) (j : Fin 7) (h : Fin 2) (hj : 1 ≤ j.val ∧ j.val ≤ 3) {off : Fin 2 → ℕ} (ho : off = offS (slot c j) h) {inb} :
    SemLoc.dma (semIn cc0_scratch11 off inb) = semOf c (dRecv j h) := by
  subst ho
  rw [semIn_ry]
  show _ = csem (kRecv c j h)
  unfold kRecv
  rw [if_neg (by omega), if_pos hj.2, csem_lt _ (by omega)]
  exact congrArg SemLoc.dma (Fin.ext (by show 20 + 4 * h.val + (slot c j).val = 16 + 4 * h.val + (slot c j).val + 4; omega))
/-- of the `z` line, -/
theorem sem_rz (c : Dev nD) (j : Fin 7) (h : Fin 2) (hj : 4 ≤ j.val) {off : Fin 2 → ℕ} (ho : off = offS (slot c j) h) {inb} :
    SemLoc.dma (semIn cc0_scratch13 off inb) = semOf c (dRecv j h) := by
  subst ho
  rw [semIn_rz]
  show _ = csem (kRecv c j h)
  unfold kRecv
  rw [if_neg (by omega), if_neg (by omega), csem_lt _ (by omega)]
  exact congrArg SemLoc.dma (Fin.ext (by show 36 + 4 * h.val + (slot c j).val = 32 + 4 * h.val + (slot c j).val + 4; omega))
/-- and where the device lands at its partners. -/
theorem sem_ty (c : Dev nD) (j : Fin 7) (h : Fin 2) (hj : j = 1 ∨ j = 2 ∨ j = 3) {off : Fin 2 → ℕ} (ho : off = offS (yc c) h) {inb} :
    SemLoc.dma (semIn cc0_scratch11 off inb) = semOf (peer j c) (dRecv (rev j) h) := by
  rcases hj with rfl | rfl | rfl
  · exact sem_ry _ _ _ (by decide) (by rw [ho, (slot_peer c).1])
  · exact sem_ry _ _ _ (by decide) (by rw [ho, (slot_peer c).2.1])
  · exact sem_ry _ _ _ (by decide) (by rw [ho, (slot_peer c).2.2.1])
theorem sem_tz (c : Dev nD) (j : Fin 7) (h : Fin 2) (hj : j = 4 ∨ j = 5 ∨ j = 6) {off : Fin 2 → ℕ} (ho : off = offS (zc c) h) {inb} :
    SemLoc.dma (semIn cc0_scratch13 off inb) = semOf (peer j c) (dRecv (rev j) h) := by
  rcases hj with rfl | rfl | rfl
  · exact sem_rz _ _ _ (by decide) (by rw [ho, (slot_peer c).2.2.2.1])
  · exact sem_rz _ _ _ (by decide) (by rw [ho, (slot_peer c).2.2.2.2.1])
  · exact sem_rz _ _ _ (by decide) (by rw [ho, (slot_peer c).2.2.2.2.2])

/-! ## The pieces together -/

/-- Two quarters of the local statistics are a half. -/
theorem quarts_join (c : Dev nD) (h : Fin 2) :
    iprop(owns (c : Thread nD τ) (locM.slice (quartR ⟨2 * h.val, by omega⟩) (fun _ => rfl)) fullShare (k0_pay4 (xchunk m ⟨2 * h.val, by omega⟩ c))
        ∗ owns (c : Thread nD τ) (locM.slice (quartR ⟨2 * h.val + 1, by omega⟩) (fun _ => rfl)) fullShare (k0_pay4 (xchunk m ⟨2 * h.val + 1, by omega⟩ c)))
      ⊢ (owns (c : Thread nD τ) (halfM locM h) fullShare (V0 m h c) : sProp 𝕄) := by
  have e : (bigSep (qs h) fun t => (owns (c : Thread nD τ) (locM.slice (quartR t) (fun _ => rfl)) fullShare (k0_pay4 (xchunk m t c)) : sProp 𝕄))
      = iprop(owns (c : Thread nD τ) (locM.slice (quartR ⟨2 * h.val, by omega⟩) (fun _ => rfl)) fullShare (k0_pay4 (xchunk m ⟨2 * h.val, by omega⟩ c))
        ∗ owns (c : Thread nD τ) (locM.slice (quartR ⟨2 * h.val + 1, by omega⟩) (fun _ => rfl)) fullShare (k0_pay4 (xchunk m ⟨2 * h.val + 1, by omega⟩ c))) := by
    unfold qs
    rw [bigSep_insert (by rw [Finset.mem_singleton]; intro h; have := congrArg Fin.val h; simp only at this; omega), bigSep_singleton]
    rfl
  rw [← e]
  refine join_rect c locM fullShare quartR (fun _ _ => rfl) quart_disj (halfR h) (fun _ => rfl) (qs h) (quart_half h)
    (fun t => k0_pay4 (xchunk m t c)) (V0 m h c) fun t ht j j0 hj => ?_
  have e0 : 0 + 1 * (j 0).val = 0 + 1 * (j0 0).val := congrArg (fun i : S4x2048.Idx => (i 0).val) hj
  have e1 : 512 * t.val + 1 * (j 1).val = 1024 * h.val + 1 * (j0 1).val := congrArg (fun i : S4x2048.Idx => (i 1).val) hj
  have z : (j 1).val < 512 := (j 1).isLt
  rw [mem_qs] at ht
  unfold V0
  split
  · rename_i hk
    have et : t = ⟨2 * h.val, by omega⟩ := Fin.ext (show t.val = 2 * h.val by omega)
    have ev := congrArg Fin.val et
    simp only at ev
    rw [← et]
    refine congrArg (k0_pay4 (xchunk m t c)) (funext fun a => Fin.ext ?_)
    match a with
    | 0 => show (j 0).val = (j0 0).val; omega
    | 1 => show (j 1).val = (j0 1).val; simp only at e1; omega
  · rename_i hk
    have et : t = ⟨2 * h.val + 1, by omega⟩ := Fin.ext (show t.val = 2 * h.val + 1 by omega)
    have ev := congrArg Fin.val et
    simp only at ev
    rw [← et]
    refine congrArg (k0_pay4 (xchunk m t c)) (funext fun a => Fin.ext ?_)
    match a with
    | 0 => show (j 0).val = (j0 0).val; omega
    | 1 => show (j 1).val = (j0 1).val - 512; simp only at e1; omega

/-- A conjunction over the four slots, in the order of a list of them. -/
theorem four (l : List (Fin 4)) (hl : l.Nodup) (hlen : l.length = 4) (Φ : Fin 4 → sProp 𝕄) : bigSep Finset.univ Φ = bigSepL l Φ :=
  bigSep_univ_eq_bigSepL l (by
    refine (Finset.eq_univ_of_card _ ?_).symm
    rw [List.toFinset_card_of_nodup hl, hlen]; rfl) hl Φ

/-- The device's own slot and the three landed ones are the half of the `y` buffer with the four planes' statistics, -/
theorem join_y (c : Dev nD) (h : Fin 2) :
    iprop(owns (c : Thread nD τ) (bufyM.slice (slotR (yc c) h) (fun _ => rfl)) fullShare (unsq (V1 m h c))
        ∗ pay m c (dRecv 1 h) ∗ pay m c (dRecv 2 h) ∗ pay m c (dRecv 3 h))
      ⊢ (owns (c : Thread nD τ) (bufyM.slice (bigR h) (fun _ => rfl)) fullShare (stack4 fun o => V1 m h (yd c o)) : sProp 𝕄) := by
  refine .trans ?_ (slots_join c bufyM h fullShare _)
  rw [four [yc c, slot c 1, slot c 2, slot c 3] (slots_y c) rfl]
  show _ ⊢ iprop(owns (c : Thread nD τ) (bufyM.slice (slotR (yc c) h) (fun _ => rfl)) fullShare (unsq (V1 m h (yd c (yc c))))
    ∗ owns (c : Thread nD τ) (bufyM.slice (slotR (slot c 1) h) (fun _ => rfl)) fullShare (unsq (V1 m h (yd c (slot c 1))))
    ∗ owns (c : Thread nD τ) (bufyM.slice (slotR (slot c 2) h) (fun _ => rfl)) fullShare (unsq (V1 m h (yd c (slot c 2))))
    ∗ owns (c : Thread nD τ) (bufyM.slice (slotR (slot c 3) h) (fun _ => rfl)) fullShare (unsq (V1 m h (yd c (slot c 3)))))
  rw [yd_self, (yd_slot c).1, (yd_slot c).2.1, (yd_slot c).2.2, ← owns_unsq c bufyM (slot c 1), ← owns_unsq c bufyM (slot c 2),
    ← owns_unsq c bufyM (slot c 3)]
  exact .rfl
/-- and of the `z` buffer with the four slices'. -/
theorem join_z (c : Dev nD) (h : Fin 2) :
    iprop(owns (c : Thread nD τ) (bufzM.slice (slotR (zc c) h) (fun _ => rfl)) fullShare (unsq (V2 m h c))
        ∗ pay m c (dRecv 4 h) ∗ pay m c (dRecv 5 h) ∗ pay m c (dRecv 6 h))
      ⊢ (owns (c : Thread nD τ) (bufzM.slice (bigR h) (fun _ => rfl)) fullShare (W2 m h c) : sProp 𝕄) := by
  refine .trans ?_ (slots_join c bufzM h fullShare _)
  rw [four [zc c, slot c 4, slot c 5, slot c 6] (slots_z c) rfl]
  show _ ⊢ iprop(owns (c : Thread nD τ) (bufzM.slice (slotR (zc c) h) (fun _ => rfl)) fullShare (unsq (V2 m h (zd c (zc c))))
    ∗ owns (c : Thread nD τ) (bufzM.slice (slotR (slot c 4) h) (fun _ => rfl)) fullShare (unsq (V2 m h (zd c (slot c 4))))
    ∗ owns (c : Thread nD τ) (bufzM.slice (slotR (slot c 5) h) (fun _ => rfl)) fullShare (unsq (V2 m h (zd c (slot c 5))))
    ∗ owns (c : Thread nD τ) (bufzM.slice (slotR (slot c 6) h) (fun _ => rfl)) fullShare (unsq (V2 m h (zd c (slot c 6)))))
  rw [zd_self, (zd_slot c).1, (zd_slot c).2.1, (zd_slot c).2.2, ← owns_unsq c bufzM (slot c 4), ← owns_unsq c bufzM (slot c 5),
    ← owns_unsq c bufzM (slot c 6)]
  exact .rfl

/-- The share of a source that stays with the device. -/
abbrev kept : PosShare TreeShare := fullShare.right.right.right

/-- A whole share is the three lent ones and the kept one; -/
theorem shares4 (c : Dev nD) {s : Shape} (M : Memref sig .tc .vmem s .f32) (X : s.Idx → Elt F .f32) :
    (owns (c : Thread nD τ) M fullShare X : sProp 𝕄)
      ⊢ iprop(owns (c : Thread nD τ) M fullShare.left X ∗ owns (c : Thread nD τ) M fullShare.right.left X
        ∗ owns (c : Thread nD τ) M fullShare.right.right.left X ∗ owns (c : Thread nD τ) M kept X) := by
  iintro H
  ihave H := (owns_halves (c : Thread nD τ) M fullShare X).1 $$ H
  icases H with ⟨H1, H⟩
  ihave H := (owns_halves (c : Thread nD τ) M fullShare.right X).1 $$ H
  icases H with ⟨H2, H⟩
  ihave H := (owns_halves (c : Thread nD τ) M fullShare.right.right X).1 $$ H
  icases H with ⟨H3, H4⟩
  isplitl [H1]; · iexact H1
  isplitl [H2]; · iexact H2
  isplitl [H3]; · iexact H3
  iexact H4
/-- and back. -/
theorem shares4_back (c : Dev nD) {s : Shape} (M : Memref sig .tc .vmem s .f32) (X : s.Idx → Elt F .f32) :
    iprop(owns (c : Thread nD τ) M fullShare.left X ∗ owns (c : Thread nD τ) M fullShare.right.left X
        ∗ owns (c : Thread nD τ) M fullShare.right.right.left X ∗ owns (c : Thread nD τ) M kept X)
      ⊢ (owns (c : Thread nD τ) M fullShare X : sProp 𝕄) := by
  iintro ⟨H1, H2, H3, H4⟩
  iapply (owns_halves (c : Thread nD τ) M fullShare X).2
  isplitl [H1]; · iexact H1
  iapply (owns_halves (c : Thread nD τ) M fullShare.right X).2
  isplitl [H2]; · iexact H2
  iapply (owns_halves (c : Thread nD τ) M fullShare.right.right X).2
  isplitl [H3]; · iexact H3
  iexact H4

end Cert.KernelIdeal.Stats
end
-- ==== Proof.Body1.lean ====
/-
The body's first half, window by window: the signals and staging copies, the local statistics, the exchange across `x`.
-/
module

public import proofs.«01_k».proof.Proof.Steps

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The statements of the body at the arguments it is called with. -/
abbrev onArgs {β : Type 1} (f : (a0 : Memref sig .tc .hbm S2x2048x512 .f32) → a0.IsWhole → (a1 : Memref sig .tc .vmem S2x128 .bf16) → a1.IsWhole
    → (a2 : Memref sig .tc .vmem S128x512 .bf16) → a2.IsWhole → (a3 : Memref sig .tc .vmem S128x512 .bf16) → a3.IsWhole
    → (a4 : Memref sig .tc .vmem S2x2048x512 .bf16) → a4.IsWhole → (a5 : Memref sig .tc .vmem S2x2048x512 .f32) → a5.IsWhole
    → (a6 : Memref sig .tc .vmem S4x2048 .f32) → a6.IsWhole → (a7 : Memref sig .tc .vmem S4x2048 .f32) → a7.IsWhole
    → (a8 : Memref sig .tc .vmem S4x2048 .f32) → a8.IsWhole → (a9 : Memref sig .tc .vmem S4x2048 .f32) → a9.IsWhole
    → (a10 : Memref sig .tc .vmem S4x4x2048 .f32) → a10.IsWhole → (a11 : Memref sig .tc .vmem S4x4x2048 .f32) → a11.IsWhole
    → DmaSems sig S4 → DmaSems sig S2 → DmaSems sig S2 → DmaSems sig S2x4 → DmaSems sig S2x4 → DmaSems sig S2x4 → DmaSems sig S2x4 → β) : β :=
  f xM (Memref.isWhole_whole _) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) xvM (Memref.isWhole_whole _)
    locM (Memref.isWhole_whole _) redyM (Memref.isWhole_whole _) redzM (Memref.isWhole_whole _) bufxM (Memref.isWhole_whole _)
    bufyM (Memref.isWhole_whole _) bufzM (Memref.isWhole_whole _) cc0_scratch7 cc0_scratch8 cc0_scratch9 cc0_scratch10 cc0_scratch11
    cc0_scratch12 cc0_scratch13

/-- The payments left after `n`. -/
abbrev after (n : ℕ) : List D := payments.drop n

/-- A memref of a device held at contents. -/
abbrev ow (c : Dev nD) {sp : Space} {s : Shape} {e : EltTy} (M : Memref sig .tc sp s e) (q : PosShare TreeShare) (X : s.Idx → Elt F e) : sProp 𝕄 :=
  owns (c : Thread nD τ) M q X
/-- The partner's slot transfer `(j, h)` goes to. -/
abbrev far (c : Dev nD) (j : Fin 7) (h : Fin 2) : sProp 𝕄 := some_ (F := F) (peer j c) (dstM (peer j c) (rev j) h)
/-- Quarter `i` of the copy of `x`, -/
abbrev xvC (i : Fin 4) : Memref sig .tc .vmem S2x512x512 .f32 := xvM.slice (chunkR i) (fun _ => rfl)
/-- of `x`, -/
abbrev xC (i : Fin 4) : Memref sig .tc .hbm S2x512x512 .f32 := xM.slice (chunkR i) (fun _ => rfl)
/-- and of the local statistics. -/
abbrev qM (i : Fin 4) : Memref sig .tc .vmem S4x512 .f32 := locM.slice (quartR i) (fun _ => rfl)
/-- What a staging copy takes beside its kit. -/
def cpIn (c : Dev nD) (i : Fin 4) : sProp 𝕄 :=
  iprop(cpKit c i ∗ ow c (xC i) fullShare (xchunk m i c) ∗ some_ (F := F) c (xvC i))

/-- The seven partners' slots, after the barrier. -/
theorem lends_open (c : Dev nD) : (bigSep Finset.univ fun j : Fin 7 => lendTo (F := F) c j)
    ⊢ (iprop((far c 0 0 ∗ far c 0 1) ∗ (far c 1 0 ∗ far c 1 1) ∗ (far c 2 0 ∗ far c 2 1) ∗ (far c 3 0 ∗ far c 3 1)
      ∗ (far c 4 0 ∗ far c 4 1) ∗ (far c 5 0 ∗ far c 5 1) ∗ (far c 6 0 ∗ far c 6 1)) : sProp 𝕄) := by
  rw [bigSep_univ_eq_bigSepL [0, 1, 2, 3, 4, 5, 6] (by decide) (by decide)]
  unfold lendTo
  exact BI.BIBase.Entails.rfl

/-- What a staging copy leaves. -/
theorem cp_open (c : Dev nD) (i : Fin 4) : pay m c (dCp i) ⊢ (iprop(ow c (xvC i) fullShare (xchunk m i c) ∗ ow c (xC i) fullShare (xchunk m i c)) : sProp 𝕄) := by
  show cpPay m c i ⊢ _
  unfold cpPay
  iintro H
  iexact H

/-- What a landing across `x` holds. -/
theorem recv_x (c : Dev nD) (h : Fin 2) : pay m c (dRecv 0 h) ⊢ (ow c (halfM bufxM h) fullShare (V0 m h (peer 0 c)) : sProp 𝕄) := by
  show recvPay m c 0 h ⊢ _
  unfold recvPay
  iintro H
  iexact H

/-- Only the barrier's cell is cell 40. -/
theorem ne40 {c : Dev nD} {d : D} (hd : ∀ j, d ≠ dBar j) : kOf c d ≠ 40 := fun e => by
  obtain ⟨j, hj⟩ := (kOf_bar c d).mp e
  exact hd j hj

/-- A slot's credit. -/
theorem slot_credit (b : Memref sig .tc .vmem S4x4x2048 .f32) (off : Fin 3 → ℕ) {inb} :
    ((b.slice (Rect.unit (s := S4x4x2048) off S1x4x1024.size inb) (fun _ => rfl)).squeeze S4x1024 squeezes_S1x4x1024_S4x1024).view.dmaCredit = N := rfl

/-- A weakest precondition of the body's. -/
abbrev wpB (c : Dev nD) {A : Type} (p : Prog (TpuEff nD τ sig (Elt F) Λ₀ .tc) A) (Q : A → sProp 𝕄) : sProp 𝕄 :=
  wp frame (wpE (defs₀ (F := F)) 𝒱₀ (c : Thread nD τ) none) Set.univ p Q

variable (K : Dev nD × Fin 41 → ℕ) (c : Dev nD)

theorem part1 (Q : (Σ' (d0 : Dev nD) (v19 : BitVec 32) (v21 : BitVec 32) (v38 : BitVec 32) (v39 : BitVec 32), BitVec 32) → sProp 𝕄) :
    (iprop(∀ w1 w2 w3 w4 w5, Q ⟨c, w1, w2, w3, w4, w5⟩) : sProp 𝕄) ⊢ wpB c (onArgs k0_part1_skel) Q := by
  unfold k0_part1_skel
  simp only [wpB, onArgs, Prog.lift, Prog.bind_op, Prog.bind_ret, Prog.pure_eq_ret, wp_deviceId]
  iintro H
  rw [wp_ret]; imodintro
  iapply H

theorem part2 (w1 w2 w3 w4 w5 : BitVec 32)
    (Q : (Σ' (v43 : BitVec 32) (v48 : BitVec 32) (v58 : BitVec 32) (v68 : BitVec 32) (v71 : BitVec 32) (v73 : BitVec 1), BitVec 32) → sProp 𝕄) :
    (iprop(∀ x1 x2 x3 x4 x5 x6 x7, Q ⟨x1, x2, x3, x4, x5, x6, x7⟩) : sProp 𝕄) ⊢ wpB c (onArgs k0_part2_skel w1 w2 w3 w4 w5) Q := by
  unfold k0_part2_skel
  simp only [wpB, onArgs, Prog.lift, Prog.bind_op, Prog.bind_ret, Prog.pure_eq_ret]
  iintro H
  rw [wp_ret]; imodintro
  iapply H

theorem part3 (w1 w2 w3 w4 w5 w6 w7 : BitVec 32) (w8 : BitVec 1) (w9 : BitVec 32)
    (Q : (Σ' (v78 : BitVec 32) (v82 : BitVec 32) (v86 : BitVec 32) (v90 : BitVec 32) (v91 : Sems sig S_), BitVec 32) → sProp 𝕄) :
    recs m K ⊢ iprop(owesL c (after 0) -∗ sigKit c 0 -∗ sigKit c 1 -∗ sigKit c 2 -∗ sigKit c 3 -∗ sigKit c 4
      -∗ (owesL c (after 5) -∗ ∀ x1 x2 x3 x4 x5, Q ⟨x1, x2, x3, x4, SemArray.scalar (sig.barrier 0 rfl), x5⟩)
      -∗ wpB c (onArgs k0_part3_skel c w1 w2 w3 w4 w5 w6 w7 w8 w9) Q) := by
  unfold k0_part3_skel
  simp only [semSignalWord, Prog.lift, Prog.bind_op, Prog.bind_ret, Prog.pure_eq_ret]
  iintro #HR HO H0 H1 H2 H3 H4 Hk
  iapply (op_signal m K c 0 (l₀ := after 0) (l := after 1) rfl (dev1 c)) $$ HR HO H0
  iintro HO
  iapply (op_signal m K c 1 (l₀ := after 1) (l := after 2) rfl (dev2 c)) $$ HR HO H1
  iintro HO
  iapply (op_signal m K c 2 (l₀ := after 2) (l := after 3) rfl (dev3 c)) $$ HR HO H2
  iintro HO
  iapply (op_signal m K c 3 (l₀ := after 3) (l := after 4) rfl (dev4 c)) $$ HR HO H3
  iintro HO
  iapply (op_signal m K c 4 (l₀ := after 4) (l := after 5) rfl (dev5 c)) $$ HR HO H4
  iintro HO
  rw [wp_ret]; imodintro
  iapply Hk $$ HO

theorem part4 (w1 w2 : BitVec 32) (te : Vec F S2x128 .bf16) (Q : Vec F S2x128 .bf16 → sProp 𝕄) :
    recs m K ⊢ iprop(owesL c (after 5) -∗ sigKit c 5 -∗ sigKit c 6 -∗ cpIn m c 0 -∗ cpIn m c 1 -∗ cpIn m c 2 -∗ cpIn m c 3
        -∗ ow c (Memref.whole cc0_stg0_0) fullShare te
      -∗ ((owesL c (after 7) ∗ waitKit c (dCp 0) ∗ waitKit c (dCp 1) ∗ waitKit c (dCp 2) ∗ waitKit c (dCp 3)
        ∗ ow c (Memref.whole cc0_stg0_0) fullShare te) -∗ Q te)
      -∗ wpB c (onArgs k0_part4_skel c w1 (SemArray.scalar (sig.barrier 0 rfl)) w2) Q) := by
  unfold k0_part4_skel cpIn
  simp only [semSignalWord, Prog.lift, Prog.bind_op, Prog.bind_ret, Prog.pure_eq_ret]
  iintro #HR HO H5 H6 ⟨Hk0, Hx0, Hv0⟩ ⟨Hk1, Hx1, Hv1⟩ ⟨Hk2, Hx2, Hv2⟩ ⟨Hk3, Hx3, Hv3⟩ Hte Hk
  iapply (op_signal m K c 5 (l₀ := after 5) (l := after 6) rfl (dev6 c)) $$ HR HO H5
  iintro HO
  iapply (op_signal m K c 6 (l₀ := after 6) (l := after 7) rfl (dev7 c)) $$ HR HO H6
  iintro HO
  iapply (op_copy m K c 0 rfl rfl rfl) $$ HR Hk0 Hx0 Hv0
  iintro Hc0
  iapply (op_copy m K c 1 rfl rfl rfl) $$ HR Hk1 Hx1 Hv1
  iintro Hc1
  iapply (op_copy m K c 2 rfl rfl rfl) $$ HR Hk2 Hx2 Hv2
  iintro Hc2
  iapply (op_copy m K c 3 rfl rfl rfl) $$ HR Hk3 Hx3 Hv3
  iintro Hc3
  iapply (op_load_all c (Memref.whole cc0_stg0_0) ![0, 0] (by decide) te) $$ Hte
  iintro Hte
  rw [wp_ret]; imodintro
  iapply Hk
  iframe

theorem part5 (te : Vec F S2x128 .bf16) (ws wh : Vec F S128x512 .bf16)
    (Q : (Σ' (v129 : FVec F S2x512 .f32) (v131 : FVec F S2x512 .f32), Vec F S2x512x512 .f32) → sProp 𝕄) :
    recs m K ⊢ iprop(owesL c (after 7) -∗ waitKit c (dCp 0) -∗ waitKit c (dCp 1) -∗ some_ (F := F) c (qM 0)
        -∗ ow c (Memref.whole cc0_stg1_0) fullShare ws -∗ ow c (Memref.whole cc0_stg2_0) fullShare wh
      -∗ ((owesL c (after 7) ∗ done c (kOf c (dCp 0)) ∗ done c (kOf c (dCp 1)) ∗ (ow c (xvC 0) fullShare (xchunk m 0 c) ∗ ow c (xC 0) fullShare (xchunk m 0 c))
        ∗ (ow c (xvC 1) fullShare (xchunk m 1 c) ∗ ow c (xC 1) fullShare (xchunk m 1 c))
        ∗ ow c (qM 0) fullShare (k0_pay4 (xchunk m 0 c))
        ∗ ow c (Memref.whole cc0_stg1_0) fullShare ws ∗ ow c (Memref.whole cc0_stg2_0) fullShare wh)
          -∗ Q ⟨k0_pay2 te wh, k0_pay3 te ws, xchunk m 1 c⟩)
      -∗ wpB c (onArgs k0_part5_skel te) Q) := by
  unfold k0_part5_skel
  simp only [Prog.lift, Prog.bind_op, Prog.bind_ret, Prog.pure_eq_ret]
  iintro #HR HO Hc0 Hc1 Hq Hws Hwh Hk
  iapply (op_load_all c (Memref.whole cc0_stg1_0) ![0, 0] (by decide) ws) $$ Hws
  iintro Hws
  iapply (op_load_all c (Memref.whole cc0_stg2_0) ![0, 0] (by decide) wh) $$ Hwh
  iintro Hwh
  iapply (op_wait m K c (dCp 0) (after 7) (ne40 fun _ => nofun) 0 (by decide) (by decide) rfl (cp_credit 0)) $$ HR HO Hc0
  iintro ⟨HO, Hd0, Hp⟩
  ihave Hp := (cp_open m c 0) $$ Hp
  icases Hp with ⟨Hv0, Hx0⟩
  iapply (op_load c xvM (chunkR 0) (fun _ => rfl) (xchunk m 0 c)) $$ Hv0
  iintro Hv0
  iapply (op_put_some c locM (quartR 0) (fun _ => rfl) (k0_pay4 (xchunk m 0 c))) $$ Hq
  iintro Hq
  iapply (op_wait m K c (dCp 1) (after 7) (ne40 fun _ => nofun) 0 (by decide) (by decide) rfl (cp_credit 1)) $$ HR HO Hc1
  iintro ⟨HO, Hd1, Hp⟩
  ihave Hp := (cp_open m c 1) $$ Hp
  icases Hp with ⟨Hv1, Hx1⟩
  iapply (op_load c xvM (chunkR 1) (fun _ => rfl) (xchunk m 1 c)) $$ Hv1
  iintro Hv1
  rw [wp_ret]; imodintro
  iapply Hk
  isplitl [HO]; · iexact HO
  isplitl [Hd0]; · iexact Hd0
  isplitl [Hd1]; · iexact Hd1
  iframe

theorem part6 (w1 : BitVec 32) (Q : PUnit → sProp 𝕄) :
    recs m K ⊢ iprop(owesL c (after 7) -∗ some_ (F := F) c (qM 1) -∗ some_ (F := F) c (qM 2) -∗ ow c (qM 0) fullShare (k0_pay4 (xchunk m 0 c))
        -∗ barKit c -∗ sendKit c 0 0 -∗ waitKit c (dCp 2)
      -∗ ((owesL c (after 8) ∗ done c 40 ∗ done c (kOf c (dCp 2)) ∗ waitKit c (dSend 0 0) ∗ ow c (halfM locM 0) fullShare.right (V0 m 0 c)
        ∗ ow c (qM 2) fullShare (k0_pay4 (xchunk m 2 c)) ∗ (ow c (xvC 2) fullShare (xchunk m 2 c) ∗ ow c (xC 2) fullShare (xchunk m 2 c))
        ∗ far c 0 1 ∗ (far c 1 0 ∗ far c 1 1) ∗ (far c 2 0 ∗ far c 2 1) ∗ (far c 3 0 ∗ far c 3 1)
        ∗ (far c 4 0 ∗ far c 4 1) ∗ (far c 5 0 ∗ far c 5 1) ∗ (far c 6 0 ∗ far c 6 1)) -∗ Q ⟨⟩)
      -∗ wpB c (onArgs k0_part6_skel c w1 (SemArray.scalar (sig.barrier 0 rfl)) (xchunk m 1 c)) Q) := by
  unfold k0_part6_skel
  simp only [semWaitWord, Prog.lift, Prog.bind_op, Prog.bind_ret, Prog.pure_eq_ret]
  iintro #HR HO Hq1 Hq2 Hq0 Hb Hs Hc2 Hk
  iapply (op_put_some c locM (quartR 1) (fun _ => rfl) (k0_pay4 (xchunk m 1 c))) $$ Hq1
  iintro Hq1
  iapply (op_wait_bar m K c (after 7) (by decide)) $$ HR HO Hb
  iintro ⟨HO, Hd40, Hl⟩
  ihave Hl := (lends_open c) $$ Hl
  icases Hl with ⟨⟨H00, H01⟩, Hl⟩
  ihave Hloc := (quarts_join m c 0) $$ [Hq0 Hq1]
  · isplitl [Hq0]; · iexact Hq0
    iexact Hq1
  ihave Hloc := (owns_halves (c : Thread nD τ) (halfM locM 0) fullShare (V0 m 0 c)).1 $$ Hloc
  icases Hloc with ⟨Hl1, Hl2⟩
  iapply (op_send m K c 0 0 (l₀ := after 7) (l := after 8) rfl (dev8 c) rfl rfl rfl rfl) $$ HR HO Hs Hl1 H00
  iintro ⟨HO, Hw⟩
  iapply (op_wait m K c (dCp 2) (after 8) (ne40 fun _ => nofun) 0 (by decide) (by decide) rfl (cp_credit 2)) $$ HR HO Hc2
  iintro ⟨HO, Hd2, Hp⟩
  ihave Hp := (cp_open m c 2) $$ Hp
  icases Hp with ⟨Hv2, Hx2⟩
  iapply (op_load c xvM (chunkR 2) (fun _ => rfl) (xchunk m 2 c)) $$ Hv2
  iintro Hv2
  iapply (op_put_some c locM (quartR 2) (fun _ => rfl) (k0_pay4 (xchunk m 2 c))) $$ Hq2
  iintro Hq2
  rw [wp_ret]; imodintro
  iapply Hk
  isplitl [HO]; · iexact HO
  isplitl [Hd40]; · iexact Hd40
  isplitl [Hd2]; · iexact Hd2
  iframe

theorem part7 (w1 : BitVec 32) (Q : PUnit → sProp 𝕄) :
    recs m K ⊢ iprop(owesL c (after 8) -∗ some_ (F := F) c (qM 3) -∗ ow c (qM 2) fullShare (k0_pay4 (xchunk m 2 c))
        -∗ sendKit c 0 1 -∗ waitKit c (dCp 3) -∗ waitKit c (dRecv 0 0) -∗ far c 0 1
      -∗ ((owesL c (after 9) ∗ done c (kOf c (dCp 3)) ∗ done c (kOf c (dRecv 0 0)) ∗ waitKit c (dSend 0 1) ∗ ow c (halfM locM 1) fullShare.right (V0 m 1 c)
        ∗ (ow c (xvC 3) fullShare (xchunk m 3 c) ∗ ow c (xC 3) fullShare (xchunk m 3 c))
        ∗ ow c (halfM bufxM 0) fullShare (V0 m 0 (peer 0 c))) -∗ Q ⟨⟩)
      -∗ wpB c (onArgs k0_part7_skel c w1) Q) := by
  unfold k0_part7_skel
  simp only [Prog.lift, Prog.bind_op, Prog.bind_ret, Prog.pure_eq_ret]
  iintro #HR HO Hq3 Hq2 Hs Hc3 Hr H01 Hk
  iapply (op_wait m K c (dCp 3) (after 8) (ne40 fun _ => nofun) 0 (by decide) (by decide) rfl (cp_credit 3)) $$ HR HO Hc3
  iintro ⟨HO, Hd3, Hp⟩
  ihave Hp := (cp_open m c 3) $$ Hp
  icases Hp with ⟨Hv3, Hx3⟩
  iapply (op_load c xvM (chunkR 3) (fun _ => rfl) (xchunk m 3 c)) $$ Hv3
  iintro Hv3
  iapply (op_put_some c locM (quartR 3) (fun _ => rfl) (k0_pay4 (xchunk m 3 c))) $$ Hq3
  iintro Hq3
  ihave Hloc := (quarts_join m c 1) $$ [Hq2 Hq3]
  · isplitl [Hq2]; · iexact Hq2
    iexact Hq3
  ihave Hloc := (owns_halves (c : Thread nD τ) (halfM locM 1) fullShare (V0 m 1 c)).1 $$ Hloc
  icases Hloc with ⟨Hl1, Hl2⟩
  iapply (op_send m K c 0 1 (l₀ := after 8) (l := after 9) rfl (dev9 c) rfl rfl rfl rfl) $$ HR HO Hs Hl1 H01
  iintro ⟨HO, Hw⟩
  iapply (op_wait m K c (dRecv 0 0) (after 9) (ne40 fun _ => nofun) 2 (by decide) (by decide) rfl (dst_credit c 0 0)) $$ HR HO Hr
  iintro ⟨HO, Hd6, Hp⟩
  ihave Hp := (recv_x m c 0) $$ Hp
  rw [wp_ret]; imodintro
  iapply Hk
  isplitl [HO]; · iexact HO
  isplitl [Hd3]; · iexact Hd3
  isplitl [Hd6]; · iexact Hd6
  iframe

theorem part8 (w1 w2 w3 : BitVec 32) (Q : PUnit → sProp 𝕄) :
    recs m K ⊢ iprop(owesL c (after 9) -∗ ow c (halfM locM 0) fullShare.right (V0 m 0 c) -∗ ow c (halfM bufxM 0) fullShare (V0 m 0 (peer 0 c))
        -∗ some_ (F := F) c (halfM redyM 0) -∗ sendKit c 1 0 -∗ sendKit c 2 0 -∗ far c 1 0 -∗ far c 2 0
      -∗ ((owesL c (after 11) ∗ ow c (halfM locM 0) fullShare.right (V0 m 0 c) ∗ ow c (halfM bufxM 0) fullShare (V0 m 0 (peer 0 c))
        ∗ waitKit c (dSend 1 0) ∗ waitKit c (dSend 2 0)
        ∗ ow c (halfM redyM 0) fullShare.right.right.left (V1 m 0 c) ∗ ow c (halfM redyM 0) kept (V1 m 0 c)) -∗ Q ⟨⟩)
      -∗ wpB c (onArgs k0_part8_skel c w1 w2 w3) Q) := by
  unfold k0_part8_skel
  simp only [Prog.lift, Prog.bind_op, Prog.bind_ret, Prog.pure_eq_ret]
  iintro #HR HO Hloc Hbx Hry Hs1 Hs2 Hd1 Hd2 Hk
  iapply (op_load c locM (halfR 0) (fun _ => rfl) (V0 m 0 c)) $$ Hloc
  iintro Hloc
  iapply (op_load c bufxM (halfR 0) (fun _ => rfl) (V0 m 0 (peer 0 c))) $$ Hbx
  iintro Hbx
  iapply (op_put_some c redyM (halfR 0) (fun _ => rfl) (V1 m 0 c)) $$ Hry
  iintro Hry
  ihave Hry := (shares4 c (halfM redyM 0) (V1 m 0 c)) $$ Hry
  icases Hry with ⟨Hr1, Hr2, Hr3, Hr4⟩
  iapply (op_send m K c 1 0 (l₀ := after 9) (l := after 10) rfl (dev10 c) rfl (dst_y c 1 0 (by decide) (off2 c)) rfl
    (sem_ty c 1 0 (by decide) (off1 c))) $$ HR HO Hs1 Hr1 Hd1
  iintro ⟨HO, Hw1⟩
  iapply (op_send m K c 2 0 (l₀ := after 10) (l := after 11) rfl (dev11 c) rfl (dst_y c 2 0 (by decide) (off2 c)) rfl
    (sem_ty c 2 0 (by decide) (off1 c))) $$ HR HO Hs2 Hr2 Hd2
  iintro ⟨HO, Hw2⟩
  rw [wp_ret]; imodintro
  iapply Hk
  iframe

theorem part9 (w1 w2 w3 : BitVec 32) (Q : PUnit → sProp 𝕄) :
    recs m K ⊢ iprop(owesL c (after 11) -∗ ow c (halfM redyM 0) fullShare.right.right.left (V1 m 0 c) -∗ ow c (halfM redyM 0) kept (V1 m 0 c)
        -∗ sendKit c 3 0 -∗ far c 3 0 -∗ some_ (F := F) c (bufyM.slice (slotR (yc c) 0) (fun _ => rfl)) -∗ waitKit c (dRecv 0 1)
        -∗ ow c (halfM locM 1) fullShare.right (V0 m 1 c) -∗ some_ (F := F) c (halfM redyM 1)
      -∗ ((owesL c (after 12) ∗ done c (kOf c (dRecv 0 1)) ∗ waitKit c (dSend 3 0) ∗ ow c (halfM redyM 0) kept (V1 m 0 c)
        ∗ ow c (bufyM.slice (slotR (yc c) 0) (fun _ => rfl)) fullShare (unsq (V1 m 0 c))
        ∗ ow c (halfM locM 1) fullShare.right (V0 m 1 c) ∗ ow c (halfM bufxM 1) fullShare (V0 m 1 (peer 0 c))
        ∗ ow c (halfM redyM 1) fullShare (V1 m 1 c)) -∗ Q ⟨⟩)
      -∗ wpB c (onArgs k0_part9_skel c w1 w2 w3) Q) := by
  unfold k0_part9_skel
  simp only [Prog.lift, Prog.bind_op, Prog.bind_ret, Prog.pure_eq_ret]
  iintro #HR HO Hr3 Hr4 Hs Hd Hy Hr Hloc Hry Hk
  iapply (op_send m K c 3 0 (l₀ := after 11) (l := after 12) rfl (dev12 c) rfl (dst_y c 3 0 (by decide) (off2 c)) rfl
    (sem_ty c 3 0 (by decide) (off1 c))) $$ HR HO Hs Hr3 Hd
  iintro ⟨HO, Hw⟩
  iapply (op_load c redyM (halfR 0) (fun _ => rfl) (V1 m 0 c)) $$ Hr4
  iintro Hr4
  iapply (op_put_slot c bufyM (yc c) 0 (off3 c) (unsq (V1 m 0 c))) $$ Hy
  iintro Hy
  iapply (op_wait m K c (dRecv 0 1) (after 12) (ne40 fun _ => nofun) 2 (by decide) (by decide) rfl (dst_credit c 0 1)) $$ HR HO Hr
  iintro ⟨HO, Hd7, Hp⟩
  ihave Hbx := (recv_x m c 1) $$ Hp
  iapply (op_load c locM (halfR 1) (fun _ => rfl) (V0 m 1 c)) $$ Hloc
  iintro Hloc
  iapply (op_load c bufxM (halfR 1) (fun _ => rfl) (V0 m 1 (peer 0 c))) $$ Hbx
  iintro Hbx
  iapply (op_put_some c redyM (halfR 1) (fun _ => rfl) (V1 m 1 c)) $$ Hry
  iintro Hry
  rw [wp_ret]; imodintro
  iapply Hk
  isplitl [HO]; · iexact HO
  isplitl [Hd7]; · iexact Hd7
  iframe

theorem part10 (w1 w2 w3 : BitVec 32) (Q : (Σ' (v286 : BitVec 32), BitVec 32) → sProp 𝕄) :
    recs m K ⊢ iprop(owesL c (after 12) -∗ ow c (halfM redyM 1) fullShare (V1 m 1 c) -∗ sendKit c 1 1 -∗ sendKit c 2 1 -∗ sendKit c 3 1
        -∗ far c 1 1 -∗ far c 2 1 -∗ far c 3 1 -∗ some_ (F := F) c (bufyM.slice (slotR (yc c) 1) (fun _ => rfl))
      -∗ ((owesL c (after 15) ∗ waitKit c (dSend 1 1) ∗ waitKit c (dSend 2 1) ∗ waitKit c (dSend 3 1) ∗ ow c (halfM redyM 1) kept (V1 m 1 c)
        ∗ ow c (bufyM.slice (slotR (yc c) 1) (fun _ => rfl)) fullShare (unsq (V1 m 1 c))) -∗ ∀ x1 x2, Q ⟨x1, x2⟩)
      -∗ wpB c (onArgs k0_part10_skel c w1 w2 w3) Q) := by
  unfold k0_part10_skel
  simp only [Prog.lift, Prog.bind_op, Prog.bind_ret, Prog.pure_eq_ret]
  iintro #HR HO Hry Hs1 Hs2 Hs3 Hd1 Hd2 Hd3 Hy Hk
  ihave Hry := (shares4 c (halfM redyM 1) (V1 m 1 c)) $$ Hry
  icases Hry with ⟨Hr1, Hr2, Hr3, Hr4⟩
  iapply (op_send m K c 1 1 (l₀ := after 12) (l := after 13) rfl (dev13 c) rfl (dst_y c 1 1 (by decide) (off5 c)) rfl
    (sem_ty c 1 1 (by decide) (off4 c))) $$ HR HO Hs1 Hr1 Hd1
  iintro ⟨HO, Hw1⟩
  iapply (op_send m K c 2 1 (l₀ := after 13) (l := after 14) rfl (dev14 c) rfl (dst_y c 2 1 (by decide) (off5 c)) rfl
    (sem_ty c 2 1 (by decide) (off4 c))) $$ HR HO Hs2 Hr2 Hd2
  iintro ⟨HO, Hw2⟩
  iapply (op_send m K c 3 1 (l₀ := after 14) (l := after 15) rfl (dev15 c) rfl (dst_y c 3 1 (by decide) (off5 c)) rfl
    (sem_ty c 3 1 (by decide) (off4 c))) $$ HR HO Hs3 Hr3 Hd3
  iintro ⟨HO, Hw3⟩
  iapply (op_load c redyM (halfR 1) (fun _ => rfl) (V1 m 1 c)) $$ Hr4
  iintro Hr4
  iapply (op_put_slot c bufyM (yc c) 1 (off6 c) (unsq (V1 m 1 c))) $$ Hy
  iintro Hy
  rw [wp_ret]; imodintro
  iapply Hk $$ [HO Hw1 Hw2 Hw3 Hr4 Hy]
  iframe

end Cert.KernelIdeal.Stats
end
-- ==== Proof.Body2.lean ====
/-
The second half of the body, part by part: the exchange along the second axis, the statistics of the whole row, the two halves of
the result, and the waits for what the device lent.
-/
module

public import proofs.«01_k».proof.Proof.Body1

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A cell whose transfer has been waited for. -/
abbrev dn (c : Dev nD) (d : D) : sProp 𝕄 := done (F := F) c (kOf c d)
/-- The device's own slot of the `y` buffer, -/
abbrev yO (c : Dev nD) (h : Fin 2) : Memref sig .tc .vmem S1x4x1024 .f32 := bufyM.slice (slotR (yc c) h) (fun _ => rfl)
/-- and of the `z` buffer. -/
abbrev zO (c : Dev nD) (h : Fin 2) : Memref sig .tc .vmem S1x4x1024 .f32 := bufzM.slice (slotR (zc c) h) (fun _ => rfl)
/-- The four planes' statistics, -/
abbrev yB (h : Fin 2) : Memref sig .tc .vmem S4x4x1024 .f32 := bufyM.slice (bigR h) (fun _ => rfl)
/-- and the four slices'. -/
abbrev zB (h : Fin 2) : Memref sig .tc .vmem S4x4x1024 .f32 := bufzM.slice (bigR h) (fun _ => rfl)
/-- A half of the staged result, -/
abbrev oM (h : Fin 2) : Memref sig .tc .vmem S2x1024x512 .bf16 := (Memref.whole cc0_stg3_0).slice (xhalfR h) (fun _ => rfl)
/-- and of the copy of `x`. -/
abbrev xvH (h : Fin 2) : Memref sig .tc .vmem S2x1024x512 .f32 := xvM.slice (xhalfR h) (fun _ => rfl)
/-- Half `h` of the rows of `x`. -/
def xhalf (h : Fin 2) (c : Dev nD) : Vec F S2x1024x512 .f32 := fun k => xin m c ((xhalfR h).emb k)

variable (K : Dev nD × Fin 41 → ℕ) (c : Dev nD)

theorem part11 (w1 w2 w3 w4 : BitVec 32) (Q : PUnit → sProp 𝕄) :
    recs m K ⊢ iprop(owesL c (after 15) -∗ waitKit c (dRecv 1 0) -∗ waitKit c (dRecv 2 0) -∗ waitKit c (dRecv 3 0)
      -∗ ((owesL c (after 15) ∗ dn c (dRecv 1 0) ∗ dn c (dRecv 2 0) ∗ dn c (dRecv 3 0)
        ∗ pay m c (dRecv 1 0) ∗ pay m c (dRecv 2 0) ∗ pay m c (dRecv 3 0)) -∗ Q ⟨⟩)
      -∗ wpB c (onArgs k0_part11_skel c w1 w2 w3 w4) Q) := by
  unfold k0_part11_skel
  simp only [Prog.lift, Prog.bind_op, Prog.bind_ret, Prog.pure_eq_ret]
  iintro #HR HO H1 H2 H3 Hk
  iapply (op_wait m K c (dRecv 1 0) (after 15) (ne40 fun _ => nofun) 3 (by decide) (by decide) (sem_ry c 1 0 (by decide) (off7_1 c))
    (slot_credit bufyM _)) $$ HR HO H1
  iintro ⟨HO, Hd1, Hp1⟩
  iapply (op_wait m K c (dRecv 2 0) (after 15) (ne40 fun _ => nofun) 3 (by decide) (by decide) (sem_ry c 2 0 (by decide) (off7_2 c))
    (slot_credit bufyM _)) $$ HR HO H2
  iintro ⟨HO, Hd2, Hp2⟩
  iapply (op_wait m K c (dRecv 3 0) (after 15) (ne40 fun _ => nofun) 3 (by decide) (by decide) (sem_ry c 3 0 (by decide) (off7_3 c))
    (slot_credit bufyM _)) $$ HR HO H3
  iintro ⟨HO, Hd3, Hp3⟩
  rw [wp_ret]; imodintro
  iapply Hk
  iframe

theorem part12 (w1 w2 w3 : BitVec 32) (Q : PUnit → sProp 𝕄) :
    recs m K ⊢ iprop(owesL c (after 15) -∗ ow c (yO c 0) fullShare (unsq (V1 m 0 c)) -∗ pay m c (dRecv 1 0) -∗ pay m c (dRecv 2 0)
        -∗ pay m c (dRecv 3 0) -∗ some_ (F := F) c (halfM redzM 0) -∗ sendKit c 4 0 -∗ sendKit c 5 0 -∗ far c 4 0 -∗ far c 5 0
      -∗ ((owesL c (after 17) ∗ ow c (yB 0) fullShare (stack4 fun o => V1 m 0 (yd c o)) ∗ waitKit c (dSend 4 0) ∗ waitKit c (dSend 5 0)
        ∗ ow c (halfM redzM 0) fullShare.right.right.left (V2 m 0 c) ∗ ow c (halfM redzM 0) kept (V2 m 0 c)) -∗ Q ⟨⟩)
      -∗ wpB c (onArgs k0_part12_skel c w1 w2 w3) Q) := by
  unfold k0_part12_skel
  simp only [Prog.lift, Prog.bind_op, Prog.bind_ret, Prog.pure_eq_ret]
  iintro #HR HO Hy Hp1 Hp2 Hp3 Hrz Hs1 Hs2 Hd1 Hd2 Hk
  ihave Hy := (join_y m c 0) $$ [Hy Hp1 Hp2 Hp3]
  · iframe
  iapply (op_load c bufyM (bigR 0) (fun _ => rfl) (stack4 fun o => V1 m 0 (yd c o))) $$ Hy
  iintro Hy
  iapply (op_put_some c redzM (halfR 0) (fun _ => rfl) (V2 m 0 c)) $$ Hrz
  iintro Hrz
  ihave Hrz := (shares4 c (halfM redzM 0) (V2 m 0 c)) $$ Hrz
  icases Hrz with ⟨Hr1, Hr2, Hr3, Hr4⟩
  iapply (op_send m K c 4 0 (l₀ := after 15) (l := after 16) rfl (dev16 c) rfl (dst_z c 4 0 (by decide) (off10 c)) rfl
    (sem_tz c 4 0 (by decide) (off9 c))) $$ HR HO Hs1 Hr1 Hd1
  iintro ⟨HO, Hw1⟩
  iapply (op_send m K c 5 0 (l₀ := after 16) (l := after 17) rfl (dev17 c) rfl (dst_z c 5 0 (by decide) (off10 c)) rfl
    (sem_tz c 5 0 (by decide) (off9 c))) $$ HR HO Hs2 Hr2 Hd2
  iintro ⟨HO, Hw2⟩
  rw [wp_ret]; imodintro
  iapply Hk
  iframe

theorem part13 (w1 w2 w3 : BitVec 32) (Q : PUnit → sProp 𝕄) :
    recs m K ⊢ iprop(owesL c (after 17) -∗ ow c (halfM redzM 0) fullShare.right.right.left (V2 m 0 c) -∗ ow c (halfM redzM 0) kept (V2 m 0 c)
        -∗ sendKit c 6 0 -∗ far c 6 0 -∗ some_ (F := F) c (zO c 0) -∗ waitKit c (dRecv 1 1)
      -∗ ((owesL c (after 18) ∗ waitKit c (dSend 6 0) ∗ ow c (halfM redzM 0) kept (V2 m 0 c) ∗ ow c (zO c 0) fullShare (unsq (V2 m 0 c))
        ∗ dn c (dRecv 1 1) ∗ pay m c (dRecv 1 1)) -∗ Q ⟨⟩)
      -∗ wpB c (onArgs k0_part13_skel c w1 w2 w3) Q) := by
  unfold k0_part13_skel
  simp only [Prog.lift, Prog.bind_op, Prog.bind_ret, Prog.pure_eq_ret]
  iintro #HR HO Hr3 Hr4 Hs Hd Hz Hw1 Hk
  iapply (op_send m K c 6 0 (l₀ := after 17) (l := after 18) rfl (dev18 c) rfl (dst_z c 6 0 (by decide) (off10 c)) rfl
    (sem_tz c 6 0 (by decide) (off9 c))) $$ HR HO Hs Hr3 Hd
  iintro ⟨HO, Hw⟩
  iapply (op_load c redzM (halfR 0) (fun _ => rfl) (V2 m 0 c)) $$ Hr4
  iintro Hr4
  iapply (op_put_slot c bufzM (zc c) 0 (off11 c) (unsq (V2 m 0 c))) $$ Hz
  iintro Hz
  iapply (op_wait m K c (dRecv 1 1) (after 18) (ne40 fun _ => nofun) 3 (by decide) (by decide) (sem_ry c 1 1 (by decide) (off12_1 c))
    (slot_credit bufyM _)) $$ HR HO Hw1
  iintro ⟨HO, Hd1, Hp1⟩
  rw [wp_ret]; imodintro
  iapply Hk
  iframe

theorem part14 (w1 w2 w3 w4 : BitVec 32) (Q : (Σ' (v392 : BitVec 32), BitVec 32) → sProp 𝕄) :
    recs m K ⊢ iprop(owesL c (after 18) -∗ waitKit c (dRecv 2 1) -∗ waitKit c (dRecv 3 1) -∗ ow c (yO c 1) fullShare (unsq (V1 m 1 c))
        -∗ pay m c (dRecv 1 1) -∗ some_ (F := F) c (halfM redzM 1) -∗ sendKit c 4 1 -∗ far c 4 1
      -∗ ((owesL c (after 19) ∗ dn c (dRecv 2 1) ∗ dn c (dRecv 3 1) ∗ ow c (yB 1) fullShare (stack4 fun o => V1 m 1 (yd c o)) ∗ waitKit c (dSend 4 1)
        ∗ ow c (halfM redzM 1) fullShare.right.left (V2 m 1 c) ∗ ow c (halfM redzM 1) fullShare.right.right.left (V2 m 1 c)
        ∗ ow c (halfM redzM 1) kept (V2 m 1 c)) -∗ ∀ x1 x2, Q ⟨x1, x2⟩)
      -∗ wpB c (onArgs k0_part14_skel c w1 w2 w3 w4) Q) := by
  unfold k0_part14_skel
  simp only [Prog.lift, Prog.bind_op, Prog.bind_ret, Prog.pure_eq_ret]
  iintro #HR HO H2 H3 Hy Hp1 Hrz Hs Hd Hk
  iapply (op_wait m K c (dRecv 2 1) (after 18) (ne40 fun _ => nofun) 3 (by decide) (by decide) (sem_ry c 2 1 (by decide) (off12_2 c))
    (slot_credit bufyM _)) $$ HR HO H2
  iintro ⟨HO, Hd2, Hp2⟩
  iapply (op_wait m K c (dRecv 3 1) (after 18) (ne40 fun _ => nofun) 3 (by decide) (by decide) (sem_ry c 3 1 (by decide) (off12_3 c))
    (slot_credit bufyM _)) $$ HR HO H3
  iintro ⟨HO, Hd3, Hp3⟩
  ihave Hy := (join_y m c 1) $$ [Hy Hp1 Hp2 Hp3]
  · iframe
  iapply (op_load c bufyM (bigR 1) (fun _ => rfl) (stack4 fun o => V1 m 1 (yd c o))) $$ Hy
  iintro Hy
  iapply (op_put_some c redzM (halfR 1) (fun _ => rfl) (V2 m 1 c)) $$ Hrz
  iintro Hrz
  ihave Hrz := (shares4 c (halfM redzM 1) (V2 m 1 c)) $$ Hrz
  icases Hrz with ⟨Hr1, Hr2, Hr3, Hr4⟩
  iapply (op_send m K c 4 1 (l₀ := after 18) (l := after 19) rfl (dev19 c) rfl (dst_z c 4 1 (by decide) (off15 c)) rfl
    (sem_tz c 4 1 (by decide) (off14 c))) $$ HR HO Hs Hr1 Hd
  iintro ⟨HO, Hw1⟩
  rw [wp_ret]; imodintro
  iapply Hk $$ [HO Hd2 Hd3 Hy Hw1 Hr2 Hr3 Hr4]
  iframe

theorem part15 (w1 w2 w3 w4 w5 : BitVec 32) (Q : PUnit → sProp 𝕄) :
    recs m K ⊢ iprop(owesL c (after 19) -∗ ow c (halfM redzM 1) fullShare.right.left (V2 m 1 c)
        -∗ ow c (halfM redzM 1) fullShare.right.right.left (V2 m 1 c) -∗ ow c (halfM redzM 1) kept (V2 m 1 c)
        -∗ sendKit c 5 1 -∗ sendKit c 6 1 -∗ far c 5 1 -∗ far c 6 1 -∗ some_ (F := F) c (zO c 1)
      -∗ ((owesL c (after 21) ∗ waitKit c (dSend 5 1) ∗ waitKit c (dSend 6 1) ∗ ow c (halfM redzM 1) kept (V2 m 1 c)
        ∗ ow c (zO c 1) fullShare (unsq (V2 m 1 c))) -∗ Q ⟨⟩)
      -∗ wpB c (onArgs k0_part15_skel c w1 w2 w3 w4 w5) Q) := by
  unfold k0_part15_skel
  simp only [Prog.lift, Prog.bind_op, Prog.bind_ret, Prog.pure_eq_ret]
  iintro #HR HO Hr2 Hr3 Hr4 Hs2 Hs3 Hd2 Hd3 Hz Hk
  iapply (op_send m K c 5 1 (l₀ := after 19) (l := after 20) rfl (dev20 c) rfl (dst_z c 5 1 (by decide) (off15 c)) rfl
    (sem_tz c 5 1 (by decide) (off14 c))) $$ HR HO Hs2 Hr2 Hd2
  iintro ⟨HO, Hw2⟩
  iapply (op_send m K c 6 1 (l₀ := after 20) (l := after 21) rfl (dev21 c) rfl (dst_z c 6 1 (by decide) (off15 c)) rfl
    (sem_tz c 6 1 (by decide) (off14 c))) $$ HR HO Hs3 Hr3 Hd3
  iintro ⟨HO, Hw3⟩
  iapply (op_load c redzM (halfR 1) (fun _ => rfl) (V2 m 1 c)) $$ Hr4
  iintro Hr4
  iapply (op_put_slot c bufzM (zc c) 1 (off16 c) (unsq (V2 m 1 c))) $$ Hz
  iintro Hz
  rw [wp_ret]; imodintro
  iapply Hk
  iframe

theorem part16 (w1 w2 : BitVec 32) (Q : (Σ' (v447 : FVec F S2x1024 .f32), FVec F S2x1024 .f32) → sProp 𝕄) :
    recs m K ⊢ iprop(owesL c (after 21) -∗ waitKit c (dRecv 4 0) -∗ waitKit c (dRecv 5 0) -∗ waitKit c (dRecv 6 0)
        -∗ ow c (zO c 0) fullShare (unsq (V2 m 0 c))
      -∗ ((owesL c (after 21) ∗ dn c (dRecv 4 0) ∗ dn c (dRecv 5 0) ∗ dn c (dRecv 6 0) ∗ ow c (zB 0) fullShare (W2 m 0 c))
        -∗ Q ⟨k0_pay17 (W2 m 0 c), k0_pay18 (W2 m 0 c)⟩)
      -∗ wpB c (onArgs k0_part16_skel c w1 w2) Q) := by
  unfold k0_part16_skel
  simp only [Prog.lift, Prog.bind_op, Prog.bind_ret, Prog.pure_eq_ret]
  iintro #HR HO H1 H2 H3 Hz Hk
  iapply (op_wait m K c (dRecv 4 0) (after 21) (ne40 fun _ => nofun) 4 (by decide) (by decide) (sem_rz c 4 0 (by decide) (off17_1 c))
    (slot_credit bufzM _)) $$ HR HO H1
  iintro ⟨HO, Hd1, Hp1⟩
  iapply (op_wait m K c (dRecv 5 0) (after 21) (ne40 fun _ => nofun) 4 (by decide) (by decide) (sem_rz c 5 0 (by decide) (off17_2 c))
    (slot_credit bufzM _)) $$ HR HO H2
  iintro ⟨HO, Hd2, Hp2⟩
  iapply (op_wait m K c (dRecv 6 0) (after 21) (ne40 fun _ => nofun) 4 (by decide) (by decide) (sem_rz c 6 0 (by decide) (off17_3 c))
    (slot_credit bufzM _)) $$ HR HO H3
  iintro ⟨HO, Hd3, Hp3⟩
  ihave Hz := (join_z m c 0) $$ [Hz Hp1 Hp2 Hp3]
  · iframe
  iapply (op_load c bufzM (bigR 0) (fun _ => rfl) (W2 m 0 c)) $$ Hz
  iintro Hz
  rw [wp_ret]; imodintro
  iapply Hk
  iframe

theorem part17 (w1 w2 : BitVec 32) (a b : FVec F S2x512 .f32) (Q : PUnit → sProp 𝕄) :
    recs m K ⊢ iprop(owesL c (after 21) -∗ ow c (xvH 0) fullShare (xhalf m 0 c)
        -∗ (∃ X : (xhalfR 0).shape.Idx → Elt F .bf16, ow c (oM 0) fullShare X) -∗ waitKit c (dRecv 4 1)
      -∗ ((owesL c (after 21) ∗ ow c (xvH 0) fullShare (xhalf m 0 c)
        ∗ ow c (oM 0) fullShare (k0_pay19 a b (k0_pay17 (W2 m 0 c)) (k0_pay18 (W2 m 0 c)) (xhalf m 0 c))
        ∗ dn c (dRecv 4 1) ∗ pay m c (dRecv 4 1)) -∗ Q ⟨⟩)
      -∗ wpB c (onArgs k0_part17_skel c w1 w2 a b (k0_pay17 (W2 m 0 c)) (k0_pay18 (W2 m 0 c))) Q) := by
  unfold k0_part17_skel
  simp only [Prog.lift, Prog.bind_op, Prog.bind_ret, Prog.pure_eq_ret]
  iintro #HR HO Hx Ho H1 Hk
  iapply (op_load c xvM (xhalfR 0) (fun _ => rfl) (xhalf m 0 c)) $$ Hx
  iintro Hx
  iapply (op_put c (Memref.whole cc0_stg3_0) (xhalfR 0) (fun _ => rfl)
    (k0_pay19 a b (k0_pay17 (W2 m 0 c)) (k0_pay18 (W2 m 0 c)) (xhalf m 0 c))) $$ Ho
  iintro Ho
  iapply (op_wait m K c (dRecv 4 1) (after 21) (ne40 fun _ => nofun) 4 (by decide) (by decide) (sem_rz c 4 1 (by decide) (off19_1 c))
    (slot_credit bufzM _)) $$ HR HO H1
  iintro ⟨HO, Hd1, Hp1⟩
  rw [wp_ret]; imodintro
  iapply Hk
  iframe

theorem part18 (w1 w2 : BitVec 32) (Q : (Σ' (v514 : FVec F S2x1024x512 .f32), FVec F S2x1024x512 .f32) → sProp 𝕄) :
    recs m K ⊢ iprop(owesL c (after 21) -∗ waitKit c (dRecv 5 1) -∗ waitKit c (dRecv 6 1) -∗ ow c (zO c 1) fullShare (unsq (V2 m 1 c))
        -∗ pay m c (dRecv 4 1) -∗ ow c (xvH 1) fullShare (xhalf m 1 c)
      -∗ ((owesL c (after 21) ∗ dn c (dRecv 5 1) ∗ dn c (dRecv 6 1) ∗ ow c (zB 1) fullShare (W2 m 1 c)
        ∗ ow c (xvH 1) fullShare (xhalf m 1 c)) -∗ Q ⟨k0_pay22 (W2 m 1 c) (xhalf m 1 c), k0_pay23 (W2 m 1 c)⟩)
      -∗ wpB c (onArgs k0_part18_skel c w1 w2) Q) := by
  unfold k0_part18_skel
  simp only [Prog.lift, Prog.bind_op, Prog.bind_ret, Prog.pure_eq_ret]
  iintro #HR HO H2 H3 Hz Hp1 Hx Hk
  iapply (op_wait m K c (dRecv 5 1) (after 21) (ne40 fun _ => nofun) 4 (by decide) (by decide) (sem_rz c 5 1 (by decide) (off19_2 c))
    (slot_credit bufzM _)) $$ HR HO H2
  iintro ⟨HO, Hd2, Hp2⟩
  iapply (op_wait m K c (dRecv 6 1) (after 21) (ne40 fun _ => nofun) 4 (by decide) (by decide) (sem_rz c 6 1 (by decide) (off19_3 c))
    (slot_credit bufzM _)) $$ HR HO H3
  iintro ⟨HO, Hd3, Hp3⟩
  ihave Hz := (join_z m c 1) $$ [Hz Hp1 Hp2 Hp3]
  · iframe
  iapply (op_load c bufzM (bigR 1) (fun _ => rfl) (W2 m 1 c)) $$ Hz
  iintro Hz
  iapply (op_load c xvM (xhalfR 1) (fun _ => rfl) (xhalf m 1 c)) $$ Hx
  iintro Hx
  rw [wp_ret]; imodintro
  iapply Hk
  iframe

theorem part19 (a b : FVec F S2x512 .f32) (u v : FVec F S2x1024x512 .f32) (Q : PUnit → sProp 𝕄) :
    recs m K ⊢ iprop(owesL c (after 21) -∗ (∃ X : (xhalfR 1).shape.Idx → Elt F .bf16, ow c (oM 1) fullShare X)
        -∗ waitKit c (dSend 0 0) -∗ waitKit c (dSend 0 1) -∗ waitKit c (dSend 1 0)
      -∗ ((owesL c (after 21) ∗ ow c (oM 1) fullShare (k0_pay24 a b u v) ∗ dn c (dSend 0 0) ∗ dn c (dSend 0 1) ∗ dn c (dSend 1 0)
        ∗ pay m c (dSend 0 0) ∗ pay m c (dSend 0 1) ∗ pay m c (dSend 1 0)) -∗ Q ⟨⟩)
      -∗ wpB c (onArgs k0_part19_skel c a b u v) Q) := by
  unfold k0_part19_skel
  simp only [Prog.lift, Prog.bind_op, Prog.bind_ret, Prog.pure_eq_ret]
  iintro #HR HO Ho H1 H2 H3 Hk
  iapply (op_put c (Memref.whole cc0_stg3_0) (xhalfR 1) (fun _ => rfl) (k0_pay24 a b u v)) $$ Ho
  iintro Ho
  iapply (op_wait m K c (dSend 0 0) (after 21) (ne40 fun _ => nofun) 0 (by decide) (by decide) rfl (src_credit 0 0)) $$ HR HO H1
  iintro ⟨HO, Hd1, Hp1⟩
  iapply (op_wait m K c (dSend 0 1) (after 21) (ne40 fun _ => nofun) 0 (by decide) (by decide) rfl (src_credit 0 1)) $$ HR HO H2
  iintro ⟨HO, Hd2, Hp2⟩
  iapply (op_wait m K c (dSend 1 0) (after 21) (ne40 fun _ => nofun) 0 (by decide) (by decide) rfl (src_credit 1 0)) $$ HR HO H3
  iintro ⟨HO, Hd3, Hp3⟩
  rw [wp_ret]; imodintro
  iapply Hk
  iframe

theorem part20 (Q : PUnit → sProp 𝕄) :
    recs m K ⊢ iprop(owesL c (after 21) -∗ waitKit c (dSend 2 0) -∗ waitKit c (dSend 3 0) -∗ waitKit c (dSend 1 1) -∗ waitKit c (dSend 2 1)
      -∗ ((owesL c (after 21) ∗ dn c (dSend 2 0) ∗ dn c (dSend 3 0) ∗ dn c (dSend 1 1) ∗ dn c (dSend 2 1)
        ∗ pay m c (dSend 2 0) ∗ pay m c (dSend 3 0) ∗ pay m c (dSend 1 1) ∗ pay m c (dSend 2 1)) -∗ Q ⟨⟩)
      -∗ wpB c (onArgs k0_part20_skel c) Q) := by
  unfold k0_part20_skel
  simp only [Prog.lift, Prog.bind_op, Prog.bind_ret, Prog.pure_eq_ret]
  iintro #HR HO H1 H2 H3 H4 Hk
  iapply (op_wait m K c (dSend 2 0) (after 21) (ne40 fun _ => nofun) 0 (by decide) (by decide) rfl (src_credit 2 0)) $$ HR HO H1
  iintro ⟨HO, Hd1, Hp1⟩
  iapply (op_wait m K c (dSend 3 0) (after 21) (ne40 fun _ => nofun) 0 (by decide) (by decide) rfl (src_credit 3 0)) $$ HR HO H2
  iintro ⟨HO, Hd2, Hp2⟩
  iapply (op_wait m K c (dSend 1 1) (after 21) (ne40 fun _ => nofun) 0 (by decide) (by decide) rfl (src_credit 1 1)) $$ HR HO H3
  iintro ⟨HO, Hd3, Hp3⟩
  iapply (op_wait m K c (dSend 2 1) (after 21) (ne40 fun _ => nofun) 0 (by decide) (by decide) rfl (src_credit 2 1)) $$ HR HO H4
  iintro ⟨HO, Hd4, Hp4⟩
  rw [wp_ret]; imodintro
  iapply Hk
  iframe

theorem part21 (Q : PUnit → sProp 𝕄) :
    recs m K ⊢ iprop(owesL c (after 21) -∗ waitKit c (dSend 3 1) -∗ waitKit c (dSend 4 0) -∗ waitKit c (dSend 5 0) -∗ waitKit c (dSend 6 0)
        -∗ waitKit c (dSend 4 1)
      -∗ ((owesL c (after 21) ∗ dn c (dSend 3 1) ∗ dn c (dSend 4 0) ∗ dn c (dSend 5 0) ∗ dn c (dSend 6 0) ∗ dn c (dSend 4 1)
        ∗ pay m c (dSend 3 1) ∗ pay m c (dSend 4 0) ∗ pay m c (dSend 5 0) ∗ pay m c (dSend 6 0) ∗ pay m c (dSend 4 1)) -∗ Q ⟨⟩)
      -∗ wpB c (onArgs k0_part21_skel c) Q) := by
  unfold k0_part21_skel
  simp only [Prog.lift, Prog.bind_op, Prog.bind_ret, Prog.pure_eq_ret]
  iintro #HR HO H1 H2 H3 H4 H5 Hk
  iapply (op_wait m K c (dSend 3 1) (after 21) (ne40 fun _ => nofun) 0 (by decide) (by decide) rfl (src_credit 3 1)) $$ HR HO H1
  iintro ⟨HO, Hd1, Hp1⟩
  iapply (op_wait m K c (dSend 4 0) (after 21) (ne40 fun _ => nofun) 0 (by decide) (by decide) rfl (src_credit 4 0)) $$ HR HO H2
  iintro ⟨HO, Hd2, Hp2⟩
  iapply (op_wait m K c (dSend 5 0) (after 21) (ne40 fun _ => nofun) 0 (by decide) (by decide) rfl (src_credit 5 0)) $$ HR HO H3
  iintro ⟨HO, Hd3, Hp3⟩
  iapply (op_wait m K c (dSend 6 0) (after 21) (ne40 fun _ => nofun) 0 (by decide) (by decide) rfl (src_credit 6 0)) $$ HR HO H4
  iintro ⟨HO, Hd4, Hp4⟩
  iapply (op_wait m K c (dSend 4 1) (after 21) (ne40 fun _ => nofun) 0 (by decide) (by decide) rfl (src_credit 4 1)) $$ HR HO H5
  iintro ⟨HO, Hd5, Hp5⟩
  rw [wp_ret]; imodintro
  iapply Hk
  iframe

end Cert.KernelIdeal.Stats
end
-- ==== Proof.Body3.lean ====
/-
The body as a whole: its parts one after another.
-/
module

public import proofs.«01_k».proof.Proof.Body2

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The four quarters of the copy of `x` are its two halves. -/
theorem xv_halves (c : Dev nD) :
    iprop(ow c (xvC 0) fullShare (xchunk m 0 c) ∗ ow c (xvC 1) fullShare (xchunk m 1 c) ∗ ow c (xvC 2) fullShare (xchunk m 2 c)
        ∗ ow c (xvC 3) fullShare (xchunk m 3 c))
      ⊢ (iprop(ow c (xvH 0) fullShare (xhalf m 0 c) ∗ ow c (xvH 1) fullShare (xhalf m 1 c)) : sProp 𝕄) := by
  have h1 : (bigSep Finset.univ fun t : Fin 4 => (owns (c : Thread nD τ) (xvM.slice (chunkR t) (fun _ => rfl)) fullShare (fun k => xin m c ((chunkR t).emb k)) : sProp 𝕄))
      = iprop(ow c (xvC 0) fullShare (xchunk m 0 c) ∗ ow c (xvC 1) fullShare (xchunk m 1 c) ∗ ow c (xvC 2) fullShare (xchunk m 2 c)
        ∗ ow c (xvC 3) fullShare (xchunk m 3 c)) := by
    rw [bigSep_univ_eq_bigSepL [0, 1, 2, 3] (by decide) (by decide)]; rfl
  have h2 : (bigSep Finset.univ fun t : Fin 2 => (owns (c : Thread nD τ) (xvM.slice (xhalfR t) (fun _ => rfl)) fullShare (fun k => xin m c ((xhalfR t).emb k)) : sProp 𝕄))
      = iprop(ow c (xvH 0) fullShare (xhalf m 0 c) ∗ ow c (xvH 1) fullShare (xhalf m 1 c)) := by
    rw [bigSep_univ_eq_bigSepL [0, 1] (by decide) (by decide)]; rfl
  rw [← h1, ← h2]
  exact (owns_of_rects (c : Thread nD τ) xvM fullShare chunkR (fun _ _ => rfl) chunk_disj chunk_cov (xin m c)).trans
    (owns_rects (c : Thread nD τ) xvM fullShare xhalfR (fun _ _ => rfl) xhalf_disj xhalf_cov (xin m c))

omit [FloatOps F] in
/-- A conjunction along a list, its first member apart. -/
theorem chain_cons {I : Type} (i j : I) (l : List I) (Φ : I → sProp 𝕄) : bigSepL (i :: j :: l) Φ = iprop(Φ i ∗ bigSepL (j :: l) Φ) := rfl

/-- The transfers in a row. -/
abbrev trs : List (Fin 7 × Fin 2) :=
  [(0, 0), (0, 1), (1, 0), (1, 1), (2, 0), (2, 1), (3, 0), (3, 1), (4, 0), (4, 1), (5, 0), (5, 1), (6, 0), (6, 1)]
/-- A memref at some contents, of any element type. -/
abbrev any (c : Dev nD) {sp : Space} {s : Shape} {e : EltTy} (M : Memref sig .tc sp s e) : sProp 𝕄 :=
  iprop(∃ X : s.Idx → Elt F e, ow c M fullShare X)

/-- What the body takes beside the staged operands, -/
def bodyIn (c : Dev nD) : sProp 𝕄 :=
  iprop(owesL c (after 0) ∗ (bigSepL [0, 1, 2, 3, 4, 5, 6] fun j => sigKit c j) ∗ (bigSepL [0, 1, 2, 3] fun i => cpIn m c i) ∗ barKit c
    ∗ (bigSepL trs fun p => sendKit c p.1 p.2) ∗ (bigSepL trs fun p => waitKit c (dRecv p.1 p.2))
    ∗ (bigSepL [0, 1, 2, 3] fun i => some_ (F := F) c (qM i))
    ∗ (some_ (F := F) c (halfM redyM 0) ∗ some_ (F := F) c (halfM redyM 1)) ∗ (some_ (F := F) c (halfM redzM 0) ∗ some_ (F := F) c (halfM redzM 1))
    ∗ (some_ (F := F) c (yO c 0) ∗ some_ (F := F) c (yO c 1)) ∗ (some_ (F := F) c (zO c 0) ∗ some_ (F := F) c (zO c 1)))
/-- and leaves. -/
def bodyOut (c : Dev nD) : sProp 𝕄 :=
  iprop(owesL c (after 21) ∗ done c 40 ∗ (bigSepL [0, 1, 2, 3] fun i => dn c (dCp i)) ∗ (bigSepL trs fun p => dn c (dRecv p.1 p.2))
    ∗ (bigSepL trs fun p => dn c (dSend p.1 p.2)) ∗ (bigSepL trs fun p => pay m c (dSend p.1 p.2))
    ∗ (bigSepL [0, 1, 2, 3] fun i => ow c (xC i) fullShare (xchunk m i c)) ∗ (bigSepL [0, 1] fun h => ow c (xvH h) fullShare (xhalf m h c))
    ∗ (bigSepL [0, 1] fun h => ow c (halfM locM h) fullShare.right (V0 m h c)) ∗ (bigSepL [0, 1] fun h => ow c (halfM redyM h) kept (V1 m h c))
    ∗ (bigSepL [0, 1] fun h => ow c (halfM redzM h) kept (V2 m h c)) ∗ (bigSepL [0, 1] fun h => ow c (halfM bufxM h) fullShare (V0 m h (peer 0 c)))
    ∗ (bigSepL [0, 1] fun h => ow c (yB h) fullShare (stack4 fun o => V1 m h (yd c o)))
    ∗ (bigSepL [0, 1] fun h => ow c (zB h) fullShare (W2 m h c)))

/-- The two halves of the result from the shift and the scale. -/
def outHalf (h : Fin 2) (a b : FVec F S2x512 .f32) (c : Dev nD) : Vec F S2x1024x512 .bf16 :=
  k0_pay19 a b (k0_pay17 (W2 m h c)) (k0_pay18 (W2 m h c)) (xhalf m h c)

set_option maxHeartbeats 4000000 in
theorem body (K : Dev nD × Fin 41 → ℕ) (c : Dev nD) (te : Vec F S2x128 .bf16) (ws wh : Vec F S128x512 .bf16) (Q : PUnit → sProp 𝕄) :
    recs m K ⊢ iprop(bodyIn m c -∗ (ow c (Memref.whole cc0_stg0_0) fullShare te ∗ ow c (Memref.whole cc0_stg1_0) fullShare ws
        ∗ ow c (Memref.whole cc0_stg2_0) fullShare wh)
        -∗ (∃ X : (xhalfR 0).shape.Idx → Elt F .bf16, ow c (oM 0) fullShare X) -∗ (∃ X : (xhalfR 1).shape.Idx → Elt F .bf16, ow c (oM 1) fullShare X)
      -∗ ((bodyOut m c ∗ (ow c (Memref.whole cc0_stg0_0) fullShare te ∗ ow c (Memref.whole cc0_stg1_0) fullShare ws
        ∗ ow c (Memref.whole cc0_stg2_0) fullShare wh) ∗ ow c (oM 0) fullShare (outHalf m 0 (k0_pay2 te wh) (k0_pay3 te ws) c)
        ∗ ow c (oM 1) fullShare (outHalf m 1 (k0_pay2 te wh) (k0_pay3 te ws) c)) -∗ Q ⟨⟩)
      -∗ wpB c (onArgs cc0_body) Q) := by
  rw [cc0_body_eq_skeleton]
  unfold cc0_body_skel bodyIn bodyOut outHalf
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, chain_cons, bigSepL_singleton]
  unfold wpB onArgs
  iintro #HR ⟨HO, ⟨G0, G1, G2, G3, G4, G5, G6⟩, ⟨C0, C1, C2, C3⟩, Hb, ⟨S00, S01, S10, S11, S20, S21, S30, S31, S40, S41, S50, S51, S60, S61⟩, ⟨R00, R01, R10, R11, R20, R21, R30, R31, R40, R41, R50, R51, R60, R61⟩, ⟨Q0, Q1, Q2, Q3⟩,
    ⟨Ry0, Ry1⟩, ⟨Rz0, Rz1⟩, ⟨Y0, Y1⟩, ⟨Z0, Z1⟩⟩ ⟨Te, Ws, Wh⟩ O0 O1 Hk
  rw [wp_bind]
  iapply (part1 c)
  iintro %w1 %w2 %w3 %w4 %w5
  dsimp only
  rw [wp_bind]
  iapply (part2 c)
  iintro %x1 %x2 %x3 %x4 %x5 %x6 %x7
  dsimp only
  rw [wp_bind]
  iapply (part3 m K c) $$ HR HO G0 G1 G2 G3 G4
  iintro HO %y1 %y2 %y3 %y4 %y5
  dsimp only
  rw [wp_bind]
  iapply (part4 m K c) $$ HR HO G5 G6 C0 C1 C2 C3 Te
  iintro ⟨HO, C0, C1, C2, C3, Te⟩
  dsimp only
  rw [wp_bind]
  iapply (part5 m K c) $$ HR HO C0 C1 Q0 Ws Wh
  iintro ⟨HO, DC0, DC1, ⟨XV0, X0⟩, ⟨XV1, X1⟩, Q0, Ws, Wh⟩
  dsimp only
  rw [wp_bind]
  iapply (part6 m K c) $$ HR HO Q1 Q2 Q0 Hb S00 C2
  iintro ⟨HO, D40, DC2, T00, L0, Q2, ⟨XV2, X2⟩, F01, ⟨F10, F11⟩, ⟨F20, F21⟩, ⟨F30, F31⟩, ⟨F40, F41⟩, ⟨F50, F51⟩, ⟨F60, F61⟩⟩
  rw [wp_bind]
  iapply (part7 m K c) $$ HR HO Q3 Q2 S01 C3 R00 F01
  iintro ⟨HO, DC3, DR00, T01, L1, ⟨XV3, X3⟩, BX0⟩
  rw [wp_bind]
  iapply (part8 m K c) $$ HR HO L0 BX0 Ry0 S10 S20 F10 F20
  iintro ⟨HO, L0, BX0, T10, T20, Rs, Ry0⟩
  rw [wp_bind]
  iapply (part9 m K c) $$ HR HO Rs Ry0 S30 F30 Y0 R01 L1 Ry1
  iintro ⟨HO, DR01, T30, Ry0, Y0, L1, BX1, Ry1⟩
  rw [wp_bind]
  iapply (part10 m K c) $$ HR HO Ry1 S11 S21 S31 F11 F21 F31 Y1
  iintro ⟨HO, T11, T21, T31, Ry1, Y1⟩ %z1 %z2
  dsimp only
  rw [wp_bind]
  iapply (part11 m K c) $$ HR HO R10 R20 R30
  iintro ⟨HO, DR10, DR20, DR30, P1, P2, P3⟩
  rw [wp_bind]
  iapply (part12 m K c) $$ HR HO Y0 P1 P2 P3 Rz0 S40 S50 F40 F50
  iintro ⟨HO, Y0, T40, T50, Rs, Rz0⟩
  rw [wp_bind]
  iapply (part13 m K c) $$ HR HO Rs Rz0 S60 F60 Z0 R11
  iintro ⟨HO, T60, Rz0, Z0, DR11, P1⟩
  rw [wp_bind]
  iapply (part14 m K c) $$ HR HO R21 R31 Y1 P1 Rz1 S41 F41
  iintro ⟨HO, DR21, DR31, Y1, T41, Rs2, Rs3, Rz1⟩ %u1 %u2
  dsimp only
  rw [wp_bind]
  iapply (part15 m K c) $$ HR HO Rs2 Rs3 Rz1 S51 S61 F51 F61 Z1
  iintro ⟨HO, T51, T61, Rz1, Z1⟩
  rw [wp_bind]
  iapply (part16 m K c) $$ HR HO R40 R50 R60 Z0
  iintro ⟨HO, DR40, DR50, DR60, Z0⟩
  dsimp only
  rw [wp_bind]
  ihave XV := (xv_halves m c) $$ [XV0 XV1 XV2 XV3]
  · iframe
  icases XV with ⟨XH0, XH1⟩
  iapply (part17 m K c) $$ HR HO XH0 O0 R41
  iintro ⟨HO, XH0, O0, DR41, P1⟩
  rw [wp_bind]
  iapply (part18 m K c) $$ HR HO R51 R61 Z1 P1 XH1
  iintro ⟨HO, DR51, DR61, Z1, XH1⟩
  dsimp only
  rw [wp_bind]
  iapply (part19 m K c) $$ HR HO O1 T00 T01 T10
  iintro ⟨HO, O1, DS00, DS01, DS10, E00, E01, E10⟩
  rw [wp_bind]
  iapply (part20 m K c) $$ HR HO T20 T30 T11 T21
  iintro ⟨HO, DS20, DS30, DS11, DS21, E20, E30, E11, E21⟩
  rw [wp_bind]
  iapply (part21 m K c) $$ HR HO T31 T40 T50 T60 T41
  iintro ⟨HO, DS31, DS40, DS50, DS60, DS41, E31, E40, E50, E60, E41⟩
  simp only [Prog.lift, Prog.bind_op, Prog.bind_ret, Prog.pure_eq_ret]
  iapply (op_wait m K c (dSend 5 1) (after 21) (ne40 fun _ => nofun) 0 (by decide) (by decide) rfl (src_credit 5 1)) $$ HR HO T51
  iintro ⟨HO, DS51, E51⟩
  iapply (op_wait m K c (dSend 6 1) (after 21) (ne40 fun _ => nofun) 0 (by decide) (by decide) rfl (src_credit 6 1)) $$ HR HO T61
  iintro ⟨HO, DS61, E61⟩
  rw [wp_ret]; imodintro
  iapply Hk
  isplitl [HO D40 DC0 DC1 DC2 DC3 DR00 DR01 DR10 DR11 DR20 DR21 DR30 DR31 DR40 DR41 DR50 DR51 DR60 DR61 DS00 DS01 DS10 DS11 DS20 DS21 DS30 DS31 DS40 DS41 DS50 DS51 DS60 DS61 E00 E01 E10 E11 E20 E21 E30 E31 E40 E41 E50 E51 E60 E61 X0 X1 X2 X3 XH0 XH1 L0 L1 Ry0 Ry1 Rz0 Rz1 BX0 BX1 Y0 Y1 Z0 Z1]
  · isplitl [HO]; · iexact HO
    isplitl [D40]; · iexact D40
    isplitl [DC0 DC1 DC2 DC3]; · iframe
    isplitl [DR00 DR01 DR10 DR11 DR20 DR21 DR30 DR31 DR40 DR41 DR50 DR51 DR60 DR61]; · iframe
    isplitl [DS00 DS01 DS10 DS11 DS20 DS21 DS30 DS31 DS40 DS41 DS50 DS51 DS60 DS61]; · iframe
    isplitl [E00 E01 E10 E11 E20 E21 E30 E31 E40 E41 E50 E51 E60 E61]; · iframe
    iframe
  isplitl [Te Ws Wh]; · iframe
  isplitl [O0]; · iexact O0
  iexact O1

end Cert.KernelIdeal.Stats
end
-- ==== Proof.Kits.lean ====
/-
What the operations of a device take, out of what the launch deals it, and the closing of its semaphores.
-/
module

public import proofs.«01_k».proof.Proof.Body3
public import Idealize.ShloMosaic.Lib.Rounds.Family

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A device's cells in families -/

/-- The cells no transfer uses: the device's own plane's and slice's, and the sources' at position 0. -/
def idleK (c : Dev nD) (i : Fin 8) : Fin 41 :=
  match i with
  | 0 => 8 | 1 => 12 | 2 => 24 | 3 => 28
  | 4 => ⟨16 + (yc c).val, by omega⟩ | 5 => ⟨20 + (yc c).val, by omega⟩
  | 6 => ⟨32 + (zc c).val, by omega⟩ | 7 => ⟨36 + (zc c).val, by omega⟩

/-- The barrier's cell, the copies', the landings', the sources' and the unused ones. -/
def kAt (c : Dev nD) : Unit ⊕ Fin 4 ⊕ (Fin 7 × Fin 2) ⊕ (Fin 7 × Fin 2) ⊕ Fin 8 → Fin 41
  | .inl _ => 40
  | .inr (.inl i) => kOf c (dCp i)
  | .inr (.inr (.inl p)) => kOf c (dRecv p.1 p.2)
  | .inr (.inr (.inr (.inl p))) => kOf c (dSend p.1 p.2)
  | .inr (.inr (.inr (.inr i))) => idleK c i

theorem kAt_inj (c : Dev nD) : Function.Injective (kAt c) := by revert c; decide +kernel

def kE (c : Dev nD) : (Unit ⊕ Fin 4 ⊕ (Fin 7 × Fin 2) ⊕ (Fin 7 × Fin 2) ⊕ Fin 8) ≃ Fin 41 :=
  Equiv.ofBijective (kAt c) ((Fintype.bijective_iff_injective_and_card _).mpr ⟨kAt_inj c, rfl⟩)

omit [FloatOps F] in
/-- A conjunction over two kinds. -/
theorem sum_split {A B : Type} [Fintype A] [Fintype B] (Φ : A ⊕ B → sProp 𝕄) :
    bigSep Finset.univ Φ = iprop((bigSep Finset.univ fun a => Φ (.inl a)) ∗ (bigSep Finset.univ fun b => Φ (.inr b))) := bigSep_univ_sum Φ

omit [FloatOps F] in
/-- Something of every cell of a device, by family. -/
theorem cells_split (c : Dev nD) (Φ : Fin 41 → sProp 𝕄) :
    bigSep Finset.univ Φ = iprop(Φ 40 ∗ (bigSep Finset.univ fun i : Fin 4 => Φ (kOf c (dCp i)))
      ∗ (bigSep Finset.univ fun p : Fin 7 × Fin 2 => Φ (kOf c (dRecv p.1 p.2)))
      ∗ (bigSep Finset.univ fun p : Fin 7 × Fin 2 => Φ (kOf c (dSend p.1 p.2))) ∗ (bigSep Finset.univ fun i : Fin 8 => Φ (idleK c i))) := by
  rw [bigSep_univ_equiv (kE c), sum_split, sum_split, sum_split, sum_split, Finset.univ_unique, bigSep_singleton]
  rfl

omit [FloatOps F] in
/-- Something of every duty, by family. -/
theorem duties_split (Φ : D → sProp 𝕄) :
    bigSep Finset.univ Φ = iprop((bigSep Finset.univ fun j : Fin 7 => Φ (dBar j)) ∗ (bigSep Finset.univ fun p : Fin 7 × Fin 2 => Φ (dRecv p.1 p.2))
      ∗ (bigSep Finset.univ fun p : Fin 7 × Fin 2 => Φ (dSend p.1 p.2)) ∗ (bigSep Finset.univ fun i : Fin 4 => Φ (dCp i))) := by
  rw [bigSep_univ_equiv D.equiv, sum_split, sum_split, sum_split]
  rfl

/-- The partners counted back. -/
def revE : Fin 7 ≃ Fin 7 := ⟨rev, rev, rev_rev, rev_rev⟩

/-- The positions in the unused cells. -/
def idle (c : Dev nD) : sProp 𝕄 := bigSep Finset.univ fun i : Fin 8 => atPos ER (kcell (c, idleK c i)) 0 ∅ 0
/-- Every position of a device, -/
def seats (c : Dev nD) : sProp 𝕄 := bigSep Finset.univ fun k : Fin 41 => atPos ER (kcell (c, k)) 0 ∅ 0
/-- the tokens of everything it pays, -/
def toks (c : Dev nD) : sProp 𝕄 := bigSep Finset.univ fun d : D => tok c d
/-- and the credit for everything it is paid by others. -/
def creds (c : Dev nD) : sProp 𝕄 :=
  iprop(cred (tallyAt (kcell (c, 40)) () 7) ∗ bigSep Finset.univ fun p : Fin 7 × Fin 2 => cred (tallyAt (dcell c (dRecv p.1 p.2)) () (amt (dRecv p.1 p.2))))

omit [FloatOps F] in
/-- What each operation takes, from what a device holds at the start. -/
theorem kits (c : Dev nD) : iprop(seats (F := F) c ∗ toks (F := F) c ∗ creds (F := F) c)
    ⊢ (iprop(barKit c ∗ (bigSep Finset.univ fun j : Fin 7 => tok c (dBar (rev j))) ∗ (bigSep Finset.univ fun i : Fin 4 => cpKit c i)
      ∗ (bigSep Finset.univ fun p : Fin 7 × Fin 2 => sendKit c p.1 p.2) ∗ (bigSep Finset.univ fun p : Fin 7 × Fin 2 => waitKit c (dRecv p.1 p.2)) ∗ idle c) : sProp 𝕄) := by
  unfold seats toks creds barKit cpKit sendKit waitKit idle
  rw [cells_split c, duties_split, bigSep_sep', bigSep_sep', bigSep_sep', bigSep_sep',
    bigSep_univ_equiv revE (fun j : Fin 7 => tok (F := F) c (dBar j)),
    bigSep_univ_equiv (revE.prodCongr (Equiv.refl (Fin 2))) (fun p : Fin 7 × Fin 2 => tok (F := F) c (dRecv p.1 p.2))]
  iintro ⟨⟨A40, AC, AR, AS, AI⟩, ⟨TB, TR, TS, TC⟩, CB, CR⟩
  isplitl [A40 CB]
  · isplitl [CB]; · iexact CB
    iexact A40
  isplitl [TB]; · iexact TB
  isplitl [TC AC]
  · isplitl [TC]; · iexact TC
    iexact AC
  isplitl [TR TS AS]
  · isplitl [TR]; · iexact TR
    isplitl [TS]; · iexact TS
    iexact AS
  isplitl [CR AR]
  · isplitl [CR]; · iexact CR
    iexact AR
  iexact AI

/-- The round a device's cell is at after the body: the unused ones are where they began. -/
def rnd (c : Dev nD) (k : Fin 41) : ℕ := if ∃ i, idleK c i = k then 0 else 1
theorem rnd_idle (c : Dev nD) (i : Fin 8) : rnd c (idleK c i) = 0 := if_pos ⟨i, rfl⟩
theorem rnd_used (c : Dev nD) (d : D) : rnd c (kOf c d) = 1 := by
  have H : ∀ (c : Dev nD) (d : D), rnd c (kOf c d) = 1 := by unfold rnd; decide +kernel
  exact H c d

theorem duties_rnd (c : Dev nD) (k : Fin 41) : ∀ r, rnd c k ≤ r → (Rd (F := F) m).duties (kcell (c, k)) r = ∅ := by
  intro r hr
  by_cases h : r = 0
  · subst h
    refine Finset.eq_empty_of_forall_notMem fun d hd => ?_
    dsimp only [Rd] at hd
    rw [if_pos ⟨rfl, rfl⟩] at hd
    have e : kOf c d = k := csem_injective (Finset.mem_filter.mp hd).2
    rw [← e, rnd_used] at hr
    omega
  · exact duties_later m _ r (by omega)

/-- Every cell of a device closed, its counter at zero. -/
theorem close_all (K : Dev nD × Fin 41 → ℕ) (c : Dev nD) :
    recs m K ⊢ iprop((done c 40 ∗ (bigSep Finset.univ fun i : Fin 4 => done c (kOf c (dCp i)))
        ∗ (bigSep Finset.univ fun p : Fin 7 × Fin 2 => done c (kOf c (dRecv p.1 p.2)))
        ∗ (bigSep Finset.univ fun p : Fin 7 × Fin 2 => done c (kOf c (dSend p.1 p.2))) ∗ idle c)
      -∗ |={Set.univ}=> bigSep Finset.univ fun k : Fin 41 => (semVal (kcell (c, k)) 0 : sProp 𝕄)) := by
  have hc := Rounds.cells_close (Ix := Unit) ER (Rd (F := F) m) (Finset.univ : Finset (Fin 41)) (fun k => kcell (c, k)) (fun k => K (c, k)) (Es := Set.univ)
    (fun _ _ => Set.mem_univ _) (fun _ _ h => h) (rnd c) (fun k _ => duties_rnd m c k)
  rw [bigSep_sep'] at hc
  have hp : iprop(done c 40 ∗ (bigSep Finset.univ fun i : Fin 4 => done c (kOf c (dCp i)))
        ∗ (bigSep Finset.univ fun p : Fin 7 × Fin 2 => done c (kOf c (dRecv p.1 p.2)))
        ∗ (bigSep Finset.univ fun p : Fin 7 × Fin 2 => done c (kOf c (dSend p.1 p.2))) ∗ idle c)
      = (bigSep Finset.univ fun k : Fin 41 => atPos ER (kcell (c, k)) (rnd c k) ∅ 0 : sProp 𝕄) := by
    rw [cells_split c]
    unfold done idle
    simp only [rnd_used, rnd_idle]
    rw [show rnd c 40 = 1 from rnd_used c (dBar 0)]
  rw [hp]
  iintro #HR Hp
  iapply hc
  isplitr
  · have hi : (recs m K : sProp 𝕄) ⊢ bigSep Finset.univ fun k : Fin 41 => cellInv ER (Rd m) (K (c, k)) (kcell (c, k)) :=
      (BI.bigSep_of_persistent Finset.univ _).trans (bigSep_mono fun k _ => recs_inv m K (c, k))
    iapply hi $$ HR
  · iexact Hp

end Cert.KernelIdeal.Stats
end
-- ==== Proof.Buffers.lean ====
/-
The scratch buffers cut into the pieces the body works on, and put together again.
-/
module

public import proofs.«01_k».proof.Proof.Kits

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rectangles -/

theorem quart_cov : Finset.univ.biUnion (fun t => (quartR t).set) = Finset.univ := by
  refine Finset.eq_univ_iff_forall.mpr fun i => Finset.mem_biUnion.mpr ?_
  have h1 : (i 1).val < 2048 := (i 1).isLt
  refine ⟨⟨(i 1).val / 512, by omega⟩, Finset.mem_univ _, Rect.mem_set_unit.mpr fun a => ?_⟩
  match a with
  | ⟨0, _⟩ => exact ⟨Nat.zero_le _, by have : (i 0).val < 4 := (i 0).isLt; show (i 0).val < 0 + 4; omega⟩
  | ⟨1, _⟩ => show 512 * ((i 1).val / 512) ≤ (i 1).val ∧ (i 1).val < 512 * ((i 1).val / 512) + 512; omega

theorem slots_disj (t t' : Fin 2 × Fin 4) (h : t ≠ t') : Disjoint (slotR t.2 t.1).set (slotR t'.2 t'.1).set := by
  by_cases e : t.2 = t'.2
  · have e1 : t.1 ≠ t'.1 := fun e1 => h (Prod.ext e1 e)
    exact Rect.unit_disjoint (2 : Fin 3) (by
      have := Fin.val_ne_of_ne e1; show 1024 * t.1.val + 1024 ≤ 1024 * t'.1.val ∨ 1024 * t'.1.val + 1024 ≤ 1024 * t.1.val; omega)
  · exact Rect.unit_disjoint (0 : Fin 3) (by have := Fin.val_ne_of_ne e; show t.2.val + 1 ≤ t'.2.val ∨ t'.2.val + 1 ≤ t.2.val; omega)
theorem slots_cov : Finset.univ.biUnion (fun t : Fin 2 × Fin 4 => (slotR t.2 t.1).set) = Finset.univ := by
  refine Finset.eq_univ_iff_forall.mpr fun i => ?_
  have hi := Finset.mem_univ i
  rw [← big_cov, Finset.mem_biUnion] at hi
  obtain ⟨h, -, hi⟩ := hi
  rw [← slot_big, Finset.mem_biUnion] at hi
  obtain ⟨o, -, hi⟩ := hi
  exact Finset.mem_biUnion.mpr ⟨(h, o), Finset.mem_univ _, hi⟩

/-! ## Into pieces -/

/-- A scratch buffer as the launch hands it over. -/
abbrev scr (c : Dev nD) (b : Ref sig .tc) : sProp 𝕄 :=
  iprop(∃ f : Buf (Elt F) ((c : Thread nD τ).loc b), ((c : Thread nD τ).loc b) ↦{fullShare} f)

omit [FloatOps F] in
theorem two (Φ : Fin 2 → sProp 𝕄) : bigSep Finset.univ Φ = iprop(Φ 0 ∗ Φ 1) := bigSep_univ_eq_bigSepL [0, 1] (by decide) (by decide) Φ
omit [FloatOps F] in
theorem four4 (Φ : Fin 4 → sProp 𝕄) : bigSep Finset.univ Φ = bigSepL [0, 1, 2, 3] Φ := bigSep_univ_eq_bigSepL [0, 1, 2, 3] (by decide) (by decide) Φ
omit [FloatOps F] in
theorem seven (Φ : Fin 7 → sProp 𝕄) : bigSep Finset.univ Φ = bigSepL [0, 1, 2, 3, 4, 5, 6] Φ :=
  bigSep_univ_eq_bigSepL [0, 1, 2, 3, 4, 5, 6] (by decide) (by decide) Φ
omit [FloatOps F] in
theorem fourteen (Φ : Fin 7 × Fin 2 → sProp 𝕄) : bigSep Finset.univ Φ = bigSepL trs Φ := bigSep_univ_eq_bigSepL trs (by decide) (by decide) Φ

omit [FloatOps F] in
/-- A statistics buffer in its two halves. -/
theorem half_in (c : Dev nD) (b : Memref sig .tc .vmem S4x2048 .f32) :
    some_ (F := F) c b ⊢ iprop(some_ (F := F) c (halfM b 0) ∗ some_ (F := F) c (halfM b 1)) := by
  have h := split_any (F := F) c b fullShare halfR (fun _ _ => rfl) half_disj half_cov
  rw [two] at h
  exact h
omit [FloatOps F] in
theorem quart_in (c : Dev nD) : some_ (F := F) c locM ⊢ bigSepL [0, 1, 2, 3] fun i => some_ (F := F) c (qM i) := by
  have h := split_any (F := F) c locM fullShare quartR (fun _ _ => rfl) quart_disj quart_cov
  rw [four4] at h
  exact h
omit [FloatOps F] in
theorem chunk_in (c : Dev nD) : some_ (F := F) c xvM ⊢ bigSepL [0, 1, 2, 3] fun i => some_ (F := F) c (xvC i) := by
  have h := split_any (F := F) c xvM fullShare chunkR (fun _ _ => rfl) chunk_disj chunk_cov
  rw [four4] at h
  exact h

/-- A slot at any contents, its leading axis dropped. -/
theorem some_unsq (c : Dev nD) (b : Memref sig .tc .vmem S4x4x2048 .f32) (o : Fin 4) (h : Fin 2) :
    some_ (F := F) c (b.slice (slotR o h) (fun _ => rfl)) ⊢ some_ (F := F) c (slotM b o h) := by
  unfold some_
  iintro ⟨%X, H⟩
  iexists (shapeCast S4x1024 (show Vec F S1x4x1024 .f32 from X) (by decide))
  rw [owns_unsq, unsq_cast]
  iexact H

/-- A landing buffer in its own plane's or slice's slot and the three others, each in two halves. -/
theorem slots_in (c : Dev nD) (b : Memref sig .tc .vmem S4x4x2048 .f32) (o s1 s2 s3 : Fin 4) (hs : ([o, s1, s2, s3] : List (Fin 4)).Nodup) :
    some_ (F := F) c b ⊢ (iprop((some_ (F := F) c (b.slice (slotR o 0) (fun _ => rfl)) ∗ some_ (F := F) c (b.slice (slotR o 1) (fun _ => rfl)))
      ∗ (some_ (F := F) c (slotM b s1 0) ∗ some_ (F := F) c (slotM b s1 1)) ∗ (some_ (F := F) c (slotM b s2 0) ∗ some_ (F := F) c (slotM b s2 1))
      ∗ (some_ (F := F) c (slotM b s3 0) ∗ some_ (F := F) c (slotM b s3 1))) : sProp 𝕄) := by
  have h := split_any (F := F) c b fullShare (fun t : Fin 2 × Fin 4 => slotR t.2 t.1) (fun _ _ => rfl) slots_disj slots_cov
  rw [bigSep_univ_prod, two, four [o, s1, s2, s3] hs rfl, four [o, s1, s2, s3] hs rfl] at h
  refine (show some_ (F := F) c b ⊢ iprop((some_ (F := F) c (b.slice (slotR o 0) (fun _ => rfl)) ∗ some_ (F := F) c (b.slice (slotR s1 0) (fun _ => rfl))
      ∗ some_ (F := F) c (b.slice (slotR s2 0) (fun _ => rfl)) ∗ some_ (F := F) c (b.slice (slotR s3 0) (fun _ => rfl)))
    ∗ (some_ (F := F) c (b.slice (slotR o 1) (fun _ => rfl)) ∗ some_ (F := F) c (b.slice (slotR s1 1) (fun _ => rfl))
      ∗ some_ (F := F) c (b.slice (slotR s2 1) (fun _ => rfl)) ∗ some_ (F := F) c (b.slice (slotR s3 1) (fun _ => rfl)))) from h).trans ?_
  iintro ⟨⟨O0, A0, B0, C0⟩, O1, A1, B1, C1⟩
  isplitl [O0 O1]
  · isplitl [O0]; · iexact O0
    iexact O1
  isplitl [A0 A1]
  · isplitl [A0]
    · iapply (some_unsq c b s1 0) $$ A0
    · iapply (some_unsq c b s1 1) $$ A1
  isplitl [B0 B1]
  · isplitl [B0]
    · iapply (some_unsq c b s2 0) $$ B0
    · iapply (some_unsq c b s2 1) $$ B1
  · isplitl [C0]
    · iapply (some_unsq c b s3 0) $$ C0
    · iapply (some_unsq c b s3 1) $$ C1

omit [FloatOps F] in
/-- A whole buffer at some contents is its memref at some. -/
theorem scr_owns (c : Dev nD) (b : Ref sig .tc) :
    scr (F := F) c b = iprop(∃ X : b.ty.Contents (Elt F), owns (c : Thread nD τ) (Memref.whole b) fullShare X) := by
  simp only [owns_whole]

/-- The seven scratch buffers. -/
def scratches (c : Dev nD) : sProp 𝕄 :=
  iprop(scr (F := F) c cc0_scratch0 ∗ scr (F := F) c cc0_scratch1 ∗ scr (F := F) c cc0_scratch2 ∗ scr (F := F) c cc0_scratch3
    ∗ scr (F := F) c cc0_scratch4 ∗ scr (F := F) c cc0_scratch5 ∗ scr (F := F) c cc0_scratch6)

omit [FloatOps F] in
theorem scratches_eq (c : Dev nD) : scratches (F := F) c = iprop(some_ (F := F) c xvM ∗ some_ (F := F) c locM ∗ some_ (F := F) c redyM
    ∗ some_ (F := F) c redzM ∗ some_ (F := F) c bufxM ∗ some_ (F := F) c bufyM ∗ some_ (F := F) c bufzM) := by
  unfold scratches
  simp only [scr_owns]
  rfl

/-- The block of `x` in quarters of its rows. -/
theorem x_in (c : Dev nD) : (((c : Thread nD τ).loc main_arg0) ↦{fullShare} (xin m c) : sProp 𝕄)
    = bigSepL [0, 1, 2, 3] fun i => ow c (xC i) fullShare (xchunk m i c) := by
  rw [← owns_whole, ← four4]
  exact BI.equiv_iff.mp ⟨owns_rects (c : Thread nD τ) xM fullShare chunkR (fun _ _ => rfl) chunk_disj chunk_cov (xin m c),
    owns_of_rects (c : Thread nD τ) xM fullShare chunkR (fun _ _ => rfl) chunk_disj chunk_cov (xin m c)⟩

set_option maxHeartbeats 2000000 in
/-- Everything the body takes, from what a device holds at the start. -/
theorem body_in (c : Dev nD) : iprop(owesL c (after 0) ∗ (seats (F := F) c ∗ toks (F := F) c ∗ creds (F := F) c)
      ∗ (((c : Thread nD τ).loc main_arg0) ↦{fullShare} (xin m c)) ∗ scratches (F := F) c)
    ⊢ (iprop(bodyIn m c ∗ idle c) : sProp 𝕄) := by
  rw [scratches_eq, x_in]
  iintro ⟨HO, HK, HX, X, Lo, Ry, Rz, Bx, By, Bz⟩
  ihave HK := (kits (F := F) c) $$ HK
  ihave X := (chunk_in (F := F) c) $$ X
  ihave Lo := (quart_in (F := F) c) $$ Lo
  ihave Ry := (half_in (F := F) c redyM) $$ Ry
  ihave Rz := (half_in (F := F) c redzM) $$ Rz
  ihave Bx := (half_in (F := F) c bufxM) $$ Bx
  ihave By := (slots_in (F := F) c bufyM (yc c) (slot c 1) (slot c 2) (slot c 3) (slots_y c)) $$ By
  ihave Bz := (slots_in (F := F) c bufzM (zc c) (slot c 4) (slot c 5) (slot c 6) (slots_z c)) $$ Bz
  rw [seven, four4, fourteen, fourteen]
  unfold bodyIn
  icases HK with ⟨Hb, TB, HC, HS, HW, HI⟩
  icases By with ⟨Y0, Y1, Y2, Y3⟩
  icases Bz with ⟨Z0, Z1, Z2, Z3⟩
  isplitr [HI]
  · isplitl [HO]; · iexact HO
    isplitl [TB Bx Y1 Y2 Y3 Z1 Z2 Z3]
    · unfold sigKit
      simp only [chain_cons, bigSepL_singleton]
      icases TB with ⟨T0, T1, T2, T3, T4, T5, T6⟩
      iframe
    isplitl [HC HX X]
    · unfold cpIn
      simp only [chain_cons, bigSepL_singleton]
      icases HC with ⟨C0, C1, C2, C3⟩
      icases HX with ⟨X0, X1, X2, X3⟩
      icases X with ⟨V0, V1, V2, V3⟩
      iframe
    isplitl [Hb]; · iexact Hb
    isplitl [HS]; · iexact HS
    isplitl [HW]; · iexact HW
    isplitl [Lo]; · iexact Lo
    isplitl [Ry]; · iexact Ry
    isplitl [Rz]; · iexact Rz
    isplitl [Y0]; · iexact Y0
    iexact Z0
  · iexact HI

/-! ## And back -/

/-- A source's shares put together: the one lent across `x` and the one kept meanwhile, -/
theorem back_x (c : Dev nD) (h : Fin 2) : iprop(pay m c (dSend 0 h) ∗ ow c (halfM locM h) fullShare.right (V0 m h c))
    ⊢ some_ (F := F) c (halfM locM h) := by
  refine (show _ ⊢ ow c (halfM locM h) fullShare (V0 m h c) from (owns_halves (c : Thread nD τ) (halfM locM h) fullShare (V0 m h c)).2).trans ?_
  unfold some_
  iintro H
  iexists (V0 m h c)
  iexact H
/-- the three lent along `y`, -/
theorem back_y (c : Dev nD) (h : Fin 2) : iprop(pay m c (dSend 1 h) ∗ pay m c (dSend 2 h) ∗ pay m c (dSend 3 h) ∗ ow c (halfM redyM h) kept (V1 m h c))
    ⊢ some_ (F := F) c (halfM redyM h) := by
  refine (show _ ⊢ ow c (halfM redyM h) fullShare (V1 m h c) from (shares4_back c (halfM redyM h) (V1 m h c))).trans ?_
  unfold some_
  iintro H
  iexists (V1 m h c)
  iexact H
/-- the three lent along `z`. -/
theorem back_z (c : Dev nD) (h : Fin 2) : iprop(pay m c (dSend 4 h) ∗ pay m c (dSend 5 h) ∗ pay m c (dSend 6 h) ∗ ow c (halfM redzM h) kept (V2 m h c))
    ⊢ some_ (F := F) c (halfM redzM h) := by
  refine (show _ ⊢ ow c (halfM redzM h) fullShare (V2 m h c) from (shares4_back c (halfM redzM h) (V2 m h c))).trans ?_
  unfold some_
  iintro H
  iexists (V2 m h c)
  iexact H

/-- Two pieces of a memref at any contents are the memref at some. -/
theorem two_out (c : Dev nD) {sh : Shape} (M : Memref sig .tc .vmem sh .f32) (r : Fin 2 → Rect sh) (hr : ∀ t a, (r t).stride a = 1)
    (hd : ∀ t t', t ≠ t' → Disjoint (r t).set (r t').set) (hcov : Finset.univ.biUnion (fun t => (r t).set) = Finset.univ) :
    iprop(some_ (F := F) c (M.slice (r 0) (hr 0)) ∗ some_ (F := F) c (M.slice (r 1) (hr 1))) ⊢ some_ (F := F) c M := by
  have h := join_any (F := F) c M fullShare r hr hd hcov
  rw [two] at h
  exact h

omit [FloatOps F] in
theorem ow_some (c : Dev nD) {s : Shape} (M : Memref sig .tc .vmem s .f32) (X : s.Idx → Elt F .f32) : ow c M fullShare X ⊢ some_ (F := F) c M := by
  unfold some_
  iintro H
  iexists X
  iexact H

set_option maxHeartbeats 2000000 in
/-- What the body leaves, put together. -/
theorem body_out (c : Dev nD) : iprop(bodyOut m c ∗ idle (F := F) c)
    ⊢ (iprop(owesL c (after 21) ∗ (done c 40 ∗ (bigSep Finset.univ fun i : Fin 4 => done c (kOf c (dCp i)))
        ∗ (bigSep Finset.univ fun p : Fin 7 × Fin 2 => done c (kOf c (dRecv p.1 p.2)))
        ∗ (bigSep Finset.univ fun p : Fin 7 × Fin 2 => done c (kOf c (dSend p.1 p.2))) ∗ idle c)
      ∗ (((c : Thread nD τ).loc main_arg0) ↦{fullShare} (xin m c)) ∗ scratches (F := F) c) : sProp 𝕄) := by
  rw [scratches_eq, x_in, four4, fourteen, fourteen]
  unfold bodyOut
  iintro ⟨⟨HO, Hb, HC, HR, HS, HP, HX, XH, Lo, Ry, Rz, Bx, By, Bz⟩, HI⟩
  simp only [chain_cons, bigSepL_singleton]
  icases HP with ⟨P00, P01, P10, P11, P20, P21, P30, P31, P40, P41, P50, P51, P60, P61⟩
  icases XH with ⟨XH0, XH1⟩
  icases Lo with ⟨L0, L1⟩
  icases Ry with ⟨Ry0, Ry1⟩
  icases Rz with ⟨Rz0, Rz1⟩
  icases Bx with ⟨Bx0, Bx1⟩
  icases By with ⟨By0, By1⟩
  icases Bz with ⟨Bz0, Bz1⟩
  ihave L0 := (back_x m c 0) $$ [P00 L0]
  · isplitl [P00]; · iexact P00
    iexact L0
  ihave L1 := (back_x m c 1) $$ [P01 L1]
  · isplitl [P01]; · iexact P01
    iexact L1
  ihave Ry0 := (back_y m c 0) $$ [P10 P20 P30 Ry0]
  · iframe
  ihave Ry1 := (back_y m c 1) $$ [P11 P21 P31 Ry1]
  · iframe
  ihave Rz0 := (back_z m c 0) $$ [P40 P50 P60 Rz0]
  · iframe
  ihave Rz1 := (back_z m c 1) $$ [P41 P51 P61 Rz1]
  · iframe
  ihave XH0 := (ow_some c (xvH 0) (xhalf m 0 c)) $$ XH0
  ihave XH1 := (ow_some c (xvH 1) (xhalf m 1 c)) $$ XH1
  ihave Bx0 := (ow_some c (halfM bufxM 0) _) $$ Bx0
  ihave Bx1 := (ow_some c (halfM bufxM 1) _) $$ Bx1
  ihave By0 := (ow_some c (yB 0) _) $$ By0
  ihave By1 := (ow_some c (yB 1) _) $$ By1
  ihave Bz0 := (ow_some c (zB 0) _) $$ Bz0
  ihave Bz1 := (ow_some c (zB 1) _) $$ Bz1
  isplitl [HO]; · iexact HO
  isplitl [Hb HC HR HS HI]
  · isplitl [Hb]; · iexact Hb
    isplitl [HC]; · iexact HC
    isplitl [HR]; · iexact HR
    isplitl [HS]; · iexact HS
    iexact HI
  isplitl [HX]; · iexact HX
  isplitl [XH0 XH1]
  · iapply (two_out c xvM xhalfR (fun _ _ => rfl) xhalf_disj xhalf_cov)
    isplitl [XH0]; · iexact XH0
    iexact XH1
  isplitl [L0 L1]
  · iapply (two_out c locM halfR (fun _ _ => rfl) half_disj half_cov)
    isplitl [L0]; · iexact L0
    iexact L1
  isplitl [Ry0 Ry1]
  · iapply (two_out c redyM halfR (fun _ _ => rfl) half_disj half_cov)
    isplitl [Ry0]; · iexact Ry0
    iexact Ry1
  isplitl [Rz0 Rz1]
  · iapply (two_out c redzM halfR (fun _ _ => rfl) half_disj half_cov)
    isplitl [Rz0]; · iexact Rz0
    iexact Rz1
  isplitl [Bx0 Bx1]
  · iapply (two_out c bufxM halfR (fun _ _ => rfl) half_disj half_cov)
    isplitl [Bx0]; · iexact Bx0
    iexact Bx1
  isplitl [By0 By1]
  · iapply (two_out c bufyM bigR (fun _ _ => rfl) big_disj big_cov)
    isplitl [By0]; · iexact By0
    iexact By1
  · iapply (two_out c bufzM bigR (fun _ _ => rfl) big_disj big_cov)
    isplitl [Bz0]; · iexact Bz0
    iexact Bz1

end Cert.KernelIdeal.Stats
end
-- ==== Proof.Point.lean ====
/-
The one grid point: the body between what a device is dealt and what it gives back.
-/
module

public import proofs.«01_k».proof.Proof.Buffers
public import proofs.«01_k».proof.Proof.Gen.KernelIdeal.Points

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Staged operands and the result -/

/-- A device's copies of the embedding and of its columns of the two weights, as staged. -/
def stg0 (c : Dev nD) : Vec F S2x128 .bf16 := (win0_0.blk (0 : Fin 1)).view.read (Elt F) ((s₀ m ρ).mem ((c : Thread nD τ).loc main_arg1))
def stg1 (c : Dev nD) : Vec F S128x512 .bf16 := (win0_1.blk (0 : Fin 1)).view.read (Elt F) ((s₀ m ρ).mem ((c : Thread nD τ).loc main_arg2))
def stg2 (c : Dev nD) : Vec F S128x512 .bf16 := (win0_2.blk (0 : Fin 1)).view.read (Elt F) ((s₀ m ρ).mem ((c : Thread nD τ).loc main_arg3))

/-- The half of the result a device writes, -/
def outH (h : Fin 2) (c : Dev nD) : Vec F S2x1024x512 .bf16 :=
  outHalf m h (k0_pay2 (stg0 m ρ c) (stg2 m ρ c)) (k0_pay3 (stg0 m ρ c) (stg1 m ρ c)) c
/-- and the whole of it. -/
def outAt (c : Dev nD) : Vec F S2x2048x512 .bf16 := fun k =>
  if hk : (k 1).val < 1024 then outH m ρ 0 c (fun | 0 => k 0 | 1 => ⟨(k 1).val, hk⟩ | 2 => k 2)
  else outH m ρ 1 c (fun | 0 => k 0 | 1 => ⟨(k 1).val - 1024, by have : (k 1).val < 2048 := (k 1).isLt; show _ < 1024; omega⟩ | 2 => k 2)

theorem outAt_emb (c : Dev nD) (h : Fin 2) (k : S2x1024x512.Idx) : outAt m ρ c ((xhalfR h).emb k) = outH m ρ h c k := by
  have h1 : (k 1).val < 1024 := (k 1).isLt
  have e1 : (((xhalfR h).emb k) 1).val = 1024 * h.val + 1 * (k 1).val := rfl
  have e0 : (((xhalfR h).emb k) 0).val = 0 + 1 * (k 0).val := rfl
  have e2 : (((xhalfR h).emb k) 2).val = 0 + 1 * (k 2).val := rfl
  unfold outAt
  match h with
  | 0 =>
    rw [dif_pos (by rw [e1]; show 1024 * 0 + 1 * (k 1).val < 1024; omega)]
    congr 1
    funext a
    match a with
    | 0 => exact Fin.ext (by show (((xhalfR 0).emb k) 0).val = _; rw [e0]; omega)
    | 1 => exact Fin.ext (by show (((xhalfR 0).emb k) 1).val = _; rw [e1]; show 1024 * 0 + 1 * (k 1).val = _; omega)
    | 2 => exact Fin.ext (by show (((xhalfR 0).emb k) 2).val = _; rw [e2]; omega)
  | 1 =>
    rw [dif_neg (by rw [e1]; show ¬ 1024 * 1 + 1 * (k 1).val < 1024; omega)]
    congr 1
    funext a
    match a with
    | 0 => exact Fin.ext (by show (((xhalfR 1).emb k) 0).val = _; rw [e0]; omega)
    | 1 => exact Fin.ext (by show (((xhalfR 1).emb k) 1).val - 1024 = _; rw [e1]; show 1024 * 1 + 1 * (k 1).val - 1024 = _; omega)
    | 2 => exact Fin.ext (by show (((xhalfR 1).emb k) 2).val = _; rw [e2]; omega)

/-- The result buffer in its two halves, -/
theorem out_in (c : Dev nD) (X : Vec F S2x2048x512 .bf16) : (ow c (Memref.whole cc0_stg3_0) fullShare X : sProp 𝕄)
    ⊢ iprop((∃ Y : (xhalfR 0).shape.Idx → Elt F .bf16, ow c (oM 0) fullShare Y) ∗ (∃ Y : (xhalfR 1).shape.Idx → Elt F .bf16, ow c (oM 1) fullShare Y)) := by
  have h := owns_rects (c : Thread nD τ) (Memref.whole cc0_stg3_0) fullShare xhalfR (fun _ _ => rfl) xhalf_disj xhalf_cov X (Ix := Unit) (Name := ℕ) (U := UU) (Lvl := ℕ)
  rw [two] at h
  iintro H
  ihave H := h $$ H
  icases H with ⟨H0, H1⟩
  isplitl [H0]
  · iexists _; iexact H0
  · iexists _; iexact H1
/-- and back with what was written. -/
theorem out_out (c : Dev nD) : iprop(ow c (oM 0) fullShare (outH m ρ 0 c) ∗ ow c (oM 1) fullShare (outH m ρ 1 c))
    ⊢ (ow c (Memref.whole cc0_stg3_0) fullShare (outAt m ρ c) : sProp 𝕄) := by
  have h := owns_of_rects (c : Thread nD τ) (Memref.whole cc0_stg3_0) fullShare xhalfR (fun _ _ => rfl) xhalf_disj xhalf_cov (outAt m ρ c) (Ix := Unit) (Name := ℕ) (U := UU) (Lvl := ℕ)
  have e : (fun t : Fin 2 => (owns (c : Thread nD τ) ((Memref.whole cc0_stg3_0).slice (xhalfR t) (fun _ => rfl)) fullShare (fun k => outAt m ρ c ((xhalfR t).emb k)) : sProp 𝕄))
      = fun t => owns (c : Thread nD τ) ((Memref.whole cc0_stg3_0).slice (xhalfR t) (fun _ => rfl)) fullShare (outH m ρ t c) :=
    funext fun t => congrArg _ (funext fun k => outAt_emb m ρ c t k)
  rw [e, two] at h
  exact h

/-! ## The one point -/

/-- What a device starts from, -/
def start (c : Dev nD) : sProp 𝕄 :=
  iprop((∃ K, recs m K ∗ seats (F := F) c ∗ toks (F := F) c) ∗ creds (F := F) c ∗ (((c : Thread nD τ).loc main_arg0) ↦{fullShare} (xin m c)))
/-- with its scratch, -/
def Φ₀ (c : Dev nD) : sProp 𝕄 := iprop(start m c ∗ scratches (F := F) c)
/-- and what it ends with. -/
def Φ₁ (c : Dev nD) : sProp 𝕄 :=
  iprop((((c : Thread nD τ).loc main_arg0) ↦{fullShare} (xin m c)) ∗ scratches (F := F) c ∗ bigSep Finset.univ fun k : Fin 41 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m ρ c
    | ⟨1, _⟩ => stg1 m ρ c
    | ⟨2, _⟩ => stg2 m ρ c
    | ⟨3, _⟩ => outAt m ρ c
  Φ t := match t with
    | ⟨0, _⟩ => Φ₀ m c
    | ⟨_ + 1, _⟩ => Φ₁ m c
  q _ := fullShare
  owed t := match t with
    | ⟨0, _⟩ => owed c payments
    | ⟨_ + 1, _⟩ => 0

theorem before_0 (c : Dev nD) (d) : (dats m ρ 0 c).before (0 : Fin 4) t0_0 d = stg0 m ρ c := by
  unfold Dat.before; rw [if_pos (fetch0_0 t0_0)]; rfl
theorem before_1 (c : Dev nD) (d) : (dats m ρ 0 c).before (1 : Fin 4) t0_0 d = stg1 m ρ c := by
  unfold Dat.before; rw [if_pos (fetch0_1 t0_0)]; rfl
theorem before_2 (c : Dev nD) (d) : (dats m ρ 0 c).before (2 : Fin 4) t0_0 d = stg2 m ρ c := by
  unfold Dat.before; rw [if_pos (fetch0_2 t0_0)]; rfl

/-- The body's obligations in their own words: before -/
def bodyPre (c : Dev nD) : sProp 𝕄 :=
  iprop(Φ₀ m c ∗ (dats m ρ 0 c).owesAt () t0_0.castSucc
    ∗ (∃ d, ow c (Memref.whole cc0_stg0_0) fullShare ((dats m ρ 0 c).before (0 : Fin 4) t0_0 d))
    ∗ (∃ d, ow c (Memref.whole cc0_stg1_0) fullShare ((dats m ρ 0 c).before (1 : Fin 4) t0_0 d))
    ∗ (∃ d, ow c (Memref.whole cc0_stg2_0) fullShare ((dats m ρ 0 c).before (2 : Fin 4) t0_0 d))
    ∗ (∃ d, ow c (Memref.whole cc0_stg3_0) fullShare ((dats m ρ 0 c).before (3 : Fin 4) t0_0 d)))
/-- and after. -/
def bodyPost (c : Dev nD) : sProp 𝕄 :=
  iprop(Φ₁ m c ∗ (dats m ρ 0 c).owesAt () t0_0.succ
    ∗ ow c (Memref.whole cc0_stg0_0) fullShare (stg0 m ρ c) ∗ ow c (Memref.whole cc0_stg1_0) fullShare (stg1 m ρ c)
    ∗ ow c (Memref.whole cc0_stg2_0) fullShare (stg2 m ρ c) ∗ ow c (Memref.whole cc0_stg3_0) fullShare (outAt m ρ c))

theorem point (c : Dev nD) : bodyPre m ρ c ⊢ wpB c (onArgs cc0_body) (fun _ => bodyPost m ρ c) := by
  unfold bodyPre Φ₀ start
  simp only [before_0, before_1, before_2]
  iintro ⟨⟨⟨⟨%K, #HR, HA, HT⟩, HC, HX⟩, HS⟩, HO, ⟨%d0, H0⟩, ⟨%d1, H1⟩, ⟨%d2, H2⟩, ⟨%d3, H3⟩⟩
  unfold Dat.owesAt Pipeline.owesWithin
  icases HO with ⟨%W, -, HO⟩
  ihave HB := (body_in m c) $$ [HO HA HT HC HX HS]
  · isplitl [HO]
    · unfold owesL; iexists W; iexact HO
    isplitl [HA HT HC]
    · isplitl [HA]; · iexact HA
      isplitl [HT]; · iexact HT
      iexact HC
    isplitl [HX]; · iexact HX
    iexact HS
  icases HB with ⟨HB, HI⟩
  ihave H3 := (out_in c _) $$ H3
  icases H3 with ⟨O0, O1⟩
  iapply (wp_fupd frame (wpE (defs₀ (F := F)) 𝒱₀ (c : Thread nD τ) none) Set.univ (onArgs cc0_body) fun _ => bodyPost m ρ c)
  iapply (body m K c (stg0 m ρ c) (stg1 m ρ c) (stg2 m ρ c) fun _ => iprop(|={Set.univ}=> bodyPost m ρ c)) $$ HR HB [H0 H1 H2] O0 O1
  · isplitl [H0]; · iexact H0
    isplitl [H1]; · iexact H1
    iexact H2
  iintro ⟨HB, ⟨H0, H1, H2⟩, O0, O1⟩
  ihave HB := (body_out m c) $$ [HB HI]
  · isplitl [HB]; · iexact HB
    iexact HI
  icases HB with ⟨HO, HD, HX, HS⟩
  ihave HZ := (close_all m K c) $$ HR HD
  imod HZ with HZ
  imodintro
  unfold bodyPost Φ₁ Dat.owesAt Pipeline.owesWithin
  rw [show (dats m ρ 0 c).owed t0_0.succ = 0 from rfl]
  isplitl [HX HS HZ]
  · isplitl [HX]; · iexact HX
    isplitl [HS]; · iexact HS
    iexact HZ
  isplitl [HO]
  · unfold owesL
    icases HO with ⟨%W', HO⟩
    iexists W'
    isplitr; · ipureintro; exact fun _ _ => Or.inl trivial
    iexact HO
  isplitl [H0]; · iexact H0
  isplitl [H1]; · iexact H1
  isplitl [H2]; · iexact H2
  iapply (out_out m ρ c)
  isplitl [O0]; · iexact O0
  iexact O1

set_option maxRecDepth 8000 in
/-- The library's form of it. -/
theorem body_obligation (c : Dev nD) : BodyObligation (dats (F := F) m ρ 0 c) (defs₀ (F := F)) 𝒱₀ () Set.univ := fun t => by
  rw [fin_N0 t]
  rw [bigSep_W0, bigSep_W0]
  exact point m ρ c

end Cert.KernelIdeal.Stats
end
-- ==== Proof.Run.lean ====
/-
The launch: semaphores, tokens and credit dealt to the thirty-two devices, and the run of the whole mesh.
-/
module

public import proofs.«01_k».proof.Proof.Point
public import Idealize.ShloMosaic.Lib.Pipeline.CollectiveSegs

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Semaphores and tokens at the launch -/

/-- The kernel's own forty semaphores. -/
def osem (k : Fin 40) : SemLoc sig := .dma (⟨k.val + 4, by show _ < 44; omega⟩ : DmaSem sig)

theorem ownSemFacts : Pipeline.OwnSemFacts cfg0.spec osem := by decide +kernel

theorem share_eq (c : Dev nD) (w : Fin cfg0.W) : (dats m ρ 0 c).share w = fullShare := by unfold Dat.share; split <;> rfl

omit [FloatOps F] in
/-- The barrier semaphore is the one semaphore outside the kernel's own. -/
theorem unscoped_eq (c : Dev nD) : (unscopedSems0 c : sProp 𝕄) = semVal (kcell (c, 40)) 0 := by
  unfold unscopedSems0; rw [bigSep_eq_bigSepL_of_eq [SemLoc.reg barS] (by decide) (by decide)]; rfl

omit [FloatOps F] in
theorem sems_eq (c : Dev nD) : (bigSep Finset.univ fun k : Fin 41 => (semVal (kcell (c, k)) 0 : sProp 𝕄))
    = iprop(Pipeline.ownSems0 (Ix := Unit) (Name := ℕ) (U := UU) (Lvl := ℕ) (Val := Elt F) (τ := τ) osem c ∗ unscopedSems0 c) := by
  rw [unscoped_eq, bigSep_univ_equiv (finSumFinEquiv : Fin 40 ⊕ Fin 1 ≃ Fin 41), sum_split,
    (Finset.univ_unique : (Finset.univ : Finset (Fin 1)) = {default}), bigSep_singleton]
  refine congrArg₂ _ (bigSep_congr fun k _ => ?_) rfl
  show semVal ((c : Thread nD τ), csem ⟨k.val, _⟩) 0 = semVal ((c : Thread nD τ), osem k) 0
  rw [csem_lt k.val k.isLt]
  rfl

theorem kcell_inj : Function.Injective (kcell : Dev nD × Fin 41 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_inj⟩

/-- A cell's duty as minted: the device whose cell it is, and which. -/
abbrev tokOf (p : Dev nD × D) : GSem nD τ sig × ℕ × D := (dcell p.1 p.2, 0, p.2)
theorem tokOf_inj : Function.Injective (tokOf : Dev nD × D → GSem nD τ sig × ℕ × D) := by
  rintro ⟨c, d⟩ ⟨c', d'⟩ h
  have h1 : c = c' := congrArg (fun g : GSem nD τ sig × ℕ × D => g.1.1.1) h
  have h2 : d = d' := congrArg (fun g : GSem nD τ sig × ℕ × D => g.2.2) h
  rw [h1, h2]
def allToks : Finset (GSem nD τ sig × ℕ × D) := Finset.univ.map ⟨tokOf, tokOf_inj⟩

def u₀ : UU := (initOf (Pipeline.cells cfgs cellOf_inj) (Pipeline.launchToks cfgs cellOf_inj), initOf allCells allToks)

/-- The tokens of a device's own cells. -/
def mint (c : Dev nD) : sProp 𝕄 := bigSep Finset.univ fun d : D => dutyTok ER (dcell c d) 0 d

/-- Who pays a device's duty. -/
def payer (c : Dev nD) : D → Dev nD
  | .bar j => peer j c
  | .recv j _ => peer j c
  | .send _ _ => c
  | .cp _ => c
/-- Payments and duties are one another, device by device. -/
def payE : Dev nD × D ≃ Dev nD × D where
  toFun p := (payee p.1 p.2, p.2)
  invFun p := (payer p.1 p.2, p.2)
  left_inv := by
    rintro ⟨c, j | ⟨j, h⟩ | ⟨j, h⟩ | i⟩
    · exact Prod.ext (peer_rev' j c) rfl
    · exact Prod.ext (peer_rev' j c) rfl
    · rfl
    · rfl
  right_inv := by
    rintro ⟨c, j | ⟨j, h⟩ | ⟨j, h⟩ | i⟩
    · exact Prod.ext (peer_rev j c) rfl
    · exact Prod.ext (peer_rev j c) rfl
    · rfl
    · rfl

omit [FloatOps F] in
/-- The tokens dealt: each to the device that pays with it. -/
theorem deal : (bigSep Finset.univ fun c : Dev nD => (mint (F := F) c : sProp 𝕄)) = bigSep Finset.univ fun c : Dev nD => toks c := by
  unfold mint toks
  rw [← bigSep_univ_prod (fun p : Dev nD × D => (dutyTok ER (dcell p.1 p.2) 0 p.2 : sProp 𝕄)), bigSep_univ_equiv payE, bigSep_univ_prod]
  rfl

/-- What the launch deals a device, -/
def G (c : Dev nD) : sProp 𝕄 :=
  iprop((bigSep Finset.univ fun k : Fin 41 => roundState ER (Rd m) (kcell (c, k)) 0)
    ∗ (bigSep Finset.univ fun k : Fin 41 => iprop(atPos ER (kcell (c, k)) 0 ∅ 0 ∗ reached ER (kcell (c, k)) 0)) ∗ mint c)
/-- every cell's invariant and mark, -/
def recs0 (K : Dev nD × Fin 41 → ℕ) : sProp 𝕄 :=
  iprop((bigSep Finset.univ fun ck : Dev nD × Fin 41 => cellInv ER (Rd m) (K ck) (kcell ck))
    ∗ (bigSep Finset.univ fun ck : Dev nD × Fin 41 => reached ER (kcell ck) 0))
instance recs0_persistent (K : Dev nD × Fin 41 → ℕ) : BI.Persistent (recs0 (F := F) m K) := by unfold recs0; infer_instance
/-- and what it then holds. -/
def G' (c : Dev nD) : sProp 𝕄 := iprop(∃ K, recs0 m K ∗ seats (F := F) c ∗ toks (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 41 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => mint c := by
    unfold allToks; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ mint (F := F) c) := by
  unfold G
  iintro ⟨Hos, Hus, Hst, Hat, Htok⟩
  ihave Hv := (Entails.of_eq (sems_eq (F := F) c).symm) $$ [Hos Hus]
  · isplitl [Hos] <;> iassumption
  imod (show iprop((bigSep Finset.univ fun k : Fin 41 => semVal (kcell (c, k)) 0) ∗ bigSep Finset.univ fun k : Fin 41 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Something persistent handed to every member. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ mint c) : sProp 𝕄)
      ⊢ bigSep Finset.univ (G' m) := by
  rw [bigSep_sep', bigSep_sep', ← bigSep_univ_prod (fun ck : Dev nD × Fin 41 => iprop(∃ κ : ℕ, cellInv ER (Rd m) κ (kcell ck))),
    bigSep_congr (s := Finset.univ) (fun (c : Dev nD) _ => bigSep_sep' Finset.univ (fun k : Fin 41 => (atPos ER (kcell (c, k)) 0 ∅ 0 : sProp 𝕄)) (fun k => reached ER (kcell (c, k)) 0)),
    bigSep_sep', ← bigSep_univ_prod (fun ck : Dev nD × Fin 41 => (reached ER (kcell ck) 0 : sProp 𝕄)), deal]
  iintro ⟨HI, ⟨Hat, #HR⟩, Htok⟩
  ihave HK := (BI.bigSep_exists_pi Finset.univ (fun (ck : Dev nD × Fin 41) (κ : ℕ) => (cellInv ER (Rd m) κ (kcell ck) : sProp 𝕄))) $$ HI
  icases HK with ⟨%K, #HI⟩
  have hg : ∀ c ∈ (Finset.univ : Finset (Dev nD)), iprop(recs0 m K ∗ (seats (F := F) c ∗ toks (F := F) c)) ⊢ G' m c := fun c _ => by
    unfold G'
    iintro H
    iexists K
    iexact H
  iapply (each_with hg)
  isplitr
  · unfold recs0; isplitl; · iexact HI
    iexact HR
  · rw [bigSep_sep']
    unfold seats
    isplitl [Hat]; · iexact Hat
    iexact Htok

/-- The launch's step for every device at once: the cells' invariants made, the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem owed_eq_sum (c : Dev nD) (l : List D) : owed c l = (l.map fun d => (tallyAt (pcell c d) () (amt d) : CellTallies nD τ sig Unit)).sum := by
  induction l with
  | nil => rfl
  | cons d l ih => rw [owed_cons, ih, List.map_cons, List.sum_cons, add_comm]

/-- A device's payments to others: a unit to each partner's barrier, a transfer to each of its landings. -/
theorem owed_payments (c : Dev nD) : owed c payments = (∑ j : Fin 7, (tallyAt (pcell c (dBar j)) () (amt (dBar j)) : CellTallies nD τ sig Unit))
    + ∑ p : Fin 7 × Fin 2, tallyAt (pcell c (dRecv p.1 p.2)) () (amt (dRecv p.1 p.2)) := by
  have e : payments.toFinset = Finset.univ.map ⟨fun j : Fin 7 => dBar j, fun _ _ h => D.bar.inj h⟩
      ∪ Finset.univ.map ⟨fun p : Fin 7 × Fin 2 => dRecv p.1 p.2, fun _ _ h => Prod.ext (D.recv.inj h).1 (D.recv.inj h).2⟩ := by decide
  rw [owed_eq_sum, ← List.sum_toFinset _ (by decide), e, Finset.sum_union (by decide), Finset.sum_map, Finset.sum_map]
  rfl

/-- What others pay a device. -/
def due (c : Dev nD) : CellTallies nD τ sig Unit :=
  tallyAt (kcell (c, 40)) () 7 + ∑ p : Fin 7 × Fin 2, tallyAt (dcell c (dRecv p.1 p.2)) () (amt (dRecv p.1 p.2))

theorem seven_units (g : GSem nD τ sig) : ∑ _j : Fin 7, (tallyAt g () 1 : CellTallies nD τ sig Unit) = tallyAt g () 7 := by
  simp only [Fin.sum_univ_succ, Fin.sum_univ_zero, tallyAt_add, add_zero]

/-- Over the mesh the two are the same. -/
theorem owed_due : ∑ c : Dev nD, owed c payments = ∑ c : Dev nD, due c := by
  have hB (j : Fin 7) : ∑ c : Dev nD, (tallyAt (pcell c (dBar j)) () (amt (dBar j)) : CellTallies nD τ sig Unit) = ∑ c : Dev nD, tallyAt (kcell (c, 40)) () 1 :=
    Equiv.sum_comp (peerE (rev j)) fun c : Dev nD => (tallyAt (kcell (c, 40)) () 1 : CellTallies nD τ sig Unit)
  have hR (p : Fin 7 × Fin 2) : ∑ c : Dev nD, (tallyAt (pcell c (dRecv p.1 p.2)) () (amt (dRecv p.1 p.2)) : CellTallies nD τ sig Unit)
      = ∑ c : Dev nD, tallyAt (dcell c (dRecv p.1 p.2)) () (amt (dRecv p.1 p.2)) :=
    Equiv.sum_comp (peerE (rev p.1)) fun c : Dev nD => (tallyAt (dcell c (dRecv p.1 p.2)) () (amt (dRecv p.1 p.2)) : CellTallies nD τ sig Unit)
  unfold due
  simp only [owed_payments, Finset.sum_add_distrib]
  rw [Finset.sum_comm, Finset.sum_congr rfl fun j _ => hB j, Finset.sum_comm, Finset.sum_congr rfl fun c _ => seven_units (kcell (c, 40)),
    Finset.sum_comm, Finset.sum_congr rfl fun p _ => hR p, Finset.sum_comm]

theorem due_tc (c : Dev nD) (g : GSem nD τ sig) (h : due c g ≠ 0) : g.1 = (c : Thread nD τ) := by
  by_contra hg
  refine h ?_
  unfold due
  rw [Pi.add_apply, Finset.sum_apply, tallyAt_ne_cell (fun e => hg (congrArg Prod.fst e)), zero_add]
  exact Finset.sum_eq_zero fun p _ => tallyAt_ne_cell (fun e => hg (congrArg Prod.fst e)) _ _

omit [FloatOps F] in
theorem credit (c : Dev nD) : (Pipeline.launchCred (fun c => owed c payments) c : sProp 𝕄) ⊢ creds (F := F) c := by
  rw [Pipeline.launchCred_of_sum (fun c => owed c payments) due owed_due due_tc c]
  unfold due creds
  refine (cred_add _ _).1.trans ?_
  rw [Pipeline.cred_finsetSum]

/-! ## The kernel's side conditions -/

/-- A device's start: its block of `x`, the records with the levels, its tokens and its credit. -/
theorem start_intro (c : Dev nD) : iprop(Pipeline.unscopedRestP Pipeline.Prefetch.none cfg0.spec c (fun b => m ((c.tc : Thread nD τ).loc b)) ∗ levAts L lv
      ∗ Pipeline.launchCred (fun c => owed c payments) c ∗ prngReg c (ρ c) ∗ G' m c)
    ⊢ (|={Set.univ}=> iprop(start m c ∗ emp) : sProp 𝕄) := by
  rw [Pipeline.unscopedRestP_none, show cfg0.spec = spec0 from rfl, unscopedRest0_eq]
  unfold G' start
  iintro ⟨Hx, Hl, Hc, -, %K, HR, Hs, Ht⟩
  ihave Hc := (credit (F := F) c) $$ Hc
  ihave Hr := (show iprop(recs0 m K ∗ levAts L lv) ⊢ recs (F := F) m K from by
    unfold recs0 recs levs
    iintro ⟨⟨H1, H2⟩, H3⟩
    isplitl [H1]; · iexact H1
    isplitl [H2]; · iexact H2
    isplitr; · iempintro
    iexact H3) $$ [HR Hl]
  · isplitl [HR] <;> iassumption
  imodintro
  isplitl; swap; · iempintro
  isplitl [Hr Hs Ht]
  · iexists K
    isplitl [Hr]; · iexact Hr
    isplitl [Hs]; · iexact Hs
    iexact Ht
  isplitl [Hc]; · iexact Hc
  iexact Hx

theorem phi0_intro (c : Dev nD) : iprop(start m c ∗ Pipeline.prefHeld Pipeline.Prefetch.none c (fun _ => fullShare.right) (fun k => k.elim0) ∗ Pipeline.scopedRest cfg0.spec c)
    ⊢ (dats m ρ 0 c).Φ 0 := by
  rw [show (dats m ρ 0 c).Φ 0 = Φ₀ m c from rfl, show cfg0.spec = spec0 from rfl, scopedRest0_eq]
  unfold Φ₀ scratches scr
  iintro ⟨Hs, -, Hr⟩
  isplitl [Hs]; · iexact Hs
  iexact Hr

/-- What a device hands back beside its scratch and its own semaphores. -/
def left (c : Dev nD) : sProp 𝕄 := iprop(unscopedSems0 c ∗ (((c : Thread nD τ).loc main_arg0) ↦{fullShare} (xin m c)))

theorem phi1_exit (c : Dev nD) : (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, show cfg0.spec = spec0 from rfl, scopedRest0_eq]
  unfold Φ₁ left scratches scr
  rw [sems_eq]
  iintro ⟨Hx, Hr, Ho, Hu⟩
  isplitl [Hx Hu]
  · isplitl [Hu] <;> iassumption
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of_lt c _ 0 payments (by fin_cases w <;> fin_cases s <;> exact Nat.le_refl 0) (by decide)
    · show _ ⊢ MayWait _ _ () 0
      rw [MayWait_zero]; iintro -; iempintro

/-- The memory where a device's block of `x` is held. -/
theorem read_x (c : Dev nD) (s' : Phys nD τ sig (Elt F)) : iprop((((c : Thread nD τ).loc main_arg0) ↦{fullShare} (xin m c)) ∗ SI s')
    ⊢ (iprop(⌜s'.mem.mem ((c : Thread nD τ).loc main_arg0) = xin m c⌝ ∗ SI s') : sProp 𝕄) := by
  iintro ⟨Hx, HSI⟩
  icombine HSI Hx gives %h
  isplitr
  · ipureintro; exact Buf.eq_of_forall_mem_univ h
  iexact HSI

/-! ## The run -/

/-- The run's end: each window's array as the one point leaves it, `x` unchanged, every semaphore at zero. -/
def Done : PUnit × MemSt nD τ sig (Elt F) → Prop := fun r =>
  (∀ c : Dev nD, (∀ w : Fin cfg0.W, r.2.mem ((cfg0.win w).arr.view.loc (c : Thread nD τ)) = (dats m ρ 0 c).arrAt w cfg0.N)
    ∧ r.2.mem ((c : Thread nD τ).loc main_arg0) = m ((c : Thread nD τ).loc main_arg0)) ∧ r.2.sem = fun _ => 0

set_option maxRecDepth 8000 in
/-- From any memory with zero semaphores, for any float values, every fair run of the thirty-two devices ends, and ends so. -/
theorem run_main : θ_run defs (onTc (τ := τ) (main (F := F))) (s₀ m ρ) (Done m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := fun c => owed c payments) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      unfold left
      iintro ⟨⟨Hu, Hx⟩, -, HSI⟩
      ihave H := (read_x m c s') $$ [Hx HSI]
      · isplitl [Hx] <;> iassumption
      icases H with ⟨%hx, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, hx⟩
      iexact HSI)
    (hQ := fun _ h hs => ⟨fun c => ⟨(h c).1, (h c).2.2.2⟩, sem_eq_zero hs fun c => (h c).2.2.1⟩)

end Cert.KernelIdeal.Stats
end
-- ==== Proof.Frames.lean ====
/- The frames: what the run leaves unchanged, at exact values and at the machine's. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.KernelIdeal.Stats

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A device's four operand arrays after the run are what they were. -/
theorem Done.args {r : PUnit × MemSt nD τ sig (Elt F)} (h : Done m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h.1 c).2, ((h.1 c).1 (0 : Fin 4)).trans ((dats m ρ 0 c).arrAt_in (0 : Fin 4) rfl _),
    ((h.1 c).1 (1 : Fin 4)).trans ((dats m ρ 0 c).arrAt_in (1 : Fin 4) rfl _),
    ((h.1 c).1 (2 : Fin 4)).trans ((dats m ρ 0 c).arrAt_in (2 : Fin 4) rfl _)⟩

/-- Every run, at any float values, keeps the operands and ends with every semaphore at zero. -/
theorem run_frame : θ_run (defs (F := F)) (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run (defs (F := F)) _ _).mono (fun _ h => ⟨Done.args m ρ h, h.2⟩) (run_main m ρ)

end Cert.KernelIdeal.Stats

namespace Cert.Proof

open Idealize.ShloMosaic Idealize.SL.Sem

/-- The kernel read at exact values keeps its operands and ends with every semaphore at zero. -/
theorem frame_kernelIdeal : Cert.quiescent_KernelIdeal (hKernelIdeal := Cert.KernelIdeal.Gen.facts) := fun m ρ _ =>
  Cert.KernelIdeal.Stats.run_frame m ρ

attribute [local instance] Cert.Kernel.Gen.facts Cert.KernelIdeal.Gen.facts

/-- The kernel as printed and as read at exact values have one body, -/
theorem same_body {F : FTy → Type} [FloatOps F] : Cert.Kernel.defs₀ (F := F) = Cert.KernelIdeal.defs₀ (F := F) := by
  refine congrArg Defs.onTc (funext fun l => funext fun p => ?_)
  fin_cases l
  rfl

/-- so one table of bodies. -/
theorem same_defs {F : FTy → Type} [FloatOps F] : Cert.Kernel.defs (F := F) = Cert.KernelIdeal.defs (F := F) :=
  congrArg (Pipeline.defs (Cert.Kernel.pcfgs (F := F))) same_body

/-- The same of the kernel at the machine's values: the two programs are one text, and the run holds for any values. -/
theorem frame_kernel : Cert.quiescent_Kernel (hKernel := Cert.Kernel.Gen.facts) := fun m ρ _ => by
  rw [same_defs]
  exact Cert.KernelIdeal.Stats.run_frame (F := Bits) m ρ

/-- The reference keeps its operands; it has no semaphore. -/
theorem frame_reference : Cert.quiescent_ReferenceIdeal (hReferenceIdeal := Cert.ReferenceIdeal.Gen.facts) := fun m ρ _ =>
  (θ_run Cert.ReferenceIdeal.defs _ _).mono
    (fun _ h => ⟨fun c => (h c).2, sem_eq_zero_of_no_sems (by decide) _⟩) (Cert.ReferenceIdeal.Value.run m ρ)

end Cert.Proof

end
-- ==== Proof.Mesh.lean ====
/-
The statistics at exact values: the exchange leaves every device the sums over the whole mesh.
-/
module

public import proofs.«01_k».proof.Proof.Point
public import Idealize.ShloMosaic.Lib.Pointwise

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The payloads at an index -/

/-- A chunk's statistics: rows 0 and 1 the sums of its rows, -/
theorem pay4_sum (x : FVec Ideal S2x512x512 .f32) (k : S4x512.Idx) (h : (k 0).val < 2) :
    k0_pay4 x k = ∑ j : Fin 512, x (ix3 ⟨(k 0).val, h⟩ (k 1) j) := by
  pointwise [k0_pay4]
  exact dif_pos h
/-- rows 2 and 3 the sums of their squares. -/
theorem pay4_square (x : FVec Ideal S2x512x512 .f32) (k : S4x512.Idx) (h : ¬ (k 0).val < 2) :
    k0_pay4 x k = ∑ j : Fin 512, x (ix3 ⟨(k 0).val - 2, by have : (k 0).val < 4 := (k 0).isLt; omega⟩ (k 1) j)
      * x (ix3 ⟨(k 0).val - 2, by have : (k 0).val < 4 := (k 0).isLt; omega⟩ (k 1) j) := by
  pointwise [k0_pay4]
  exact dif_neg h
/-- The sum over the four slots of a landing buffer, -/
theorem pay12_sum (x : FVec Ideal S4x4x1024 .f32) (k : S4x1024.Idx) :
    k0_pay12 x k = ∑ j : Fin 4, x (ix3 j (k 0) (k 1)) := by
  pointwise [k0_pay12]
/-- the mean of a row's entries, -/
theorem pay17_at (x : FVec Ideal S4x4x1024 .f32) (r : Fin 2) (l : Fin 1024) :
    k0_pay17 (F := Ideal) x (ix2 r l) = Ideal.div (∑ j : Fin 4, x (ix3 j ⟨r.val, by omega⟩ l)) (Ideal.ofBits .f32 0x46800000#32) := by
  pointwise [k0_pay17, k0_pay16]
/-- and of their squares. -/
theorem pay18_at (x : FVec Ideal S4x4x1024 .f32) (r : Fin 2) (l : Fin 1024) :
    k0_pay18 (F := Ideal) x (ix2 r l) = Ideal.div (∑ j : Fin 4, x (ix3 j ⟨2 + r.val, by omega⟩ l)) (Ideal.ofBits .f32 0x46800000#32) := by
  pointwise [k0_pay18, k0_pay16]
/-- The normalized entry, scaled and shifted. -/
theorem pay19_at (a b : FVec Ideal S2x512 .f32) (u v : FVec Ideal S2x1024 .f32) (x : FVec Ideal S2x1024x512 .f32) (r : Fin 2) (s : Fin 1024) (l : Fin 512) :
    k0_pay19 a b u v x (ix3 r s l) = (x (ix3 r s l) - u (ix2 r s))
      * Ideal.rsqrt (v (ix2 r s) - u (ix2 r s) * u (ix2 r s) + Ideal.ofBits .f32 0x3727C5AC#32) * b (ix2 r l) + a (ix2 r l) := by
  pointwise [k0_pay19]
/-- The shift, -/
theorem pay2_at (t : FVec Ideal S2x128 .bf16) (w : FVec Ideal S128x512 .bf16) (r : Fin 2) (l : Fin 512) :
    k0_pay2 (F := Ideal) t w (ix2 r l) = ∑ k : Fin 128, t (ix2 r k) * w (ix2 k l) := by
  pointwise [k0_pay2, k0_pay1]
/-- and one more than the scale. -/
theorem pay3_at (t : FVec Ideal S2x128 .bf16) (w : FVec Ideal S128x512 .bf16) (r : Fin 2) (l : Fin 512) :
    k0_pay3 (F := Ideal) t w (ix2 r l) = 1 + ∑ k : Fin 128, t (ix2 r k) * w (ix2 k l) := by
  pointwise [k0_pay3, k0_pay1]

/-! ## The exchange sums over the mesh -/

variable (m : (ℓ : Loc nD τ sig) → Buf (Elt Ideal) ℓ)

/-- A device's block of `x`, as extended reals. -/
def xe (c : Dev nD) : S2x2048x512.Idx → EReal := xin m c

/-- A device's share of statistic `q` of row `s`. -/
def share (q : Fin 4) (s : Fin 2048) (c : Dev nD) : EReal :=
  if h : q.val < 2 then ∑ j : Fin 512, xe m c (ix3 ⟨q.val, h⟩ s j)
  else ∑ j : Fin 512, xe m c (ix3 ⟨q.val - 2, by omega⟩ s j) * xe m c (ix3 ⟨q.val - 2, by omega⟩ s j)

/-- An entry of a chunk is the entry of the block, the chunks before it further down. -/
theorem chunk_at (i : Fin 4) (c : Dev nD) (r : Fin 2) (s : Fin 512) (j : Fin 512) :
    xchunk m i c (ix3 r s j) = xe m c (ix3 r ⟨512 * i.val + s.val, by omega⟩ j) := by
  unfold xchunk xe
  congr 1
  funext a
  match a with
  | 0 => exact Fin.ext (by show 0 + 1 * r.val = r.val; omega)
  | 1 => exact Fin.ext (by show 512 * i.val + 1 * s.val = 512 * i.val + s.val; omega)
  | 2 => exact Fin.ext (by show 0 + 1 * j.val = j.val; omega)

/-- A chunk's statistics are the device's shares of its rows. -/
theorem pay4_share (i : Fin 4) (c : Dev nD) (k : S4x512.Idx) :
    k0_pay4 (xchunk m i c) k = share m (k 0) ⟨512 * i.val + (k 1).val, by have : (k 1).val < 512 := (k 1).isLt; omega⟩ c := by
  unfold share
  split
  · next h =>
    rw [pay4_sum _ _ h]
    exact Finset.sum_congr rfl fun j _ => chunk_at m i c _ _ _
  · next h =>
    rw [pay4_square _ _ h]
    exact Finset.sum_congr rfl fun j _ => congrArg₂ (· * ·) (chunk_at m i c _ _ _) (chunk_at m i c _ _ _)

/-- The row of the whole block that row `l` of half `h` is. -/
def row (h : Fin 2) (l : Fin 1024) : Fin 2048 := ⟨1024 * h.val + l.val, by omega⟩

/-- What a device sends across `x` are its own shares, -/
theorem V0_at (h : Fin 2) (c : Dev nD) (k : S4x1024.Idx) : V0 m h c k = share m (k 0) (row h (k 1)) c := by
  unfold V0
  split
  · rw [pay4_share]
    congr 1
    exact Fin.ext (by show 512 * (2 * h.val) + (k 1).val = 1024 * h.val + (k 1).val; omega)
  · next hk =>
    rw [pay4_share]
    congr 1
    exact Fin.ext (by show 512 * (2 * h.val + 1) + ((k 1).val - 512) = 1024 * h.val + (k 1).val; omega)

/-- what it sends within its slice the sum of its share and of its partner's, -/
theorem V1_at (h : Fin 2) (c : Dev nD) (k : S4x1024.Idx) :
    V1 m h c k = share m (k 0) (row h (k 1)) c + share m (k 0) (row h (k 1)) (px c) := by
  rw [← V0_at, ← V0_at]
  unfold V1
  pointwise [k0_pay8]
  rfl

/-- and what it sends between slices the sum over the planes of its slice. -/
theorem V2_at (h : Fin 2) (c : Dev nD) (k : S4x1024.Idx) :
    V2 m h c k = ∑ o : Fin 4, (share m (k 0) (row h (k 1)) (yd c o) + share m (k 0) (row h (k 1)) (px (yd c o))) := by
  unfold V2
  rw [pay12_sum]
  exact Finset.sum_congr rfl fun o _ => V1_at m h (yd c o) _

/-- From any device, the partner across `x` of each plane of each slice and that device itself are the whole mesh. -/
theorem reach (c : Dev nD) : Function.Bijective fun p : Fin 4 × Fin 4 × Fin 2 =>
    if p.2.2 = 0 then yd (zd c p.1) p.2.1 else px (yd (zd c p.1) p.2.1) := by
  refine (Fintype.bijective_iff_injective_and_card _).mpr ⟨?_, by simp⟩
  revert c
  decide +kernel

/-- So the nested sums, from any device, are one sum over the mesh. -/
theorem mesh_sum (f : Dev nD → EReal) (c : Dev nD) :
    ∑ p : Fin 4, ∑ o : Fin 4, (f (yd (zd c p) o) + f (px (yd (zd c p) o))) = ∑ d, f d := by
  rw [← Fintype.sum_bijective _ (reach c) (fun p => f (if p.2.2 = 0 then yd (zd c p.1) p.2.1 else px (yd (zd c p.1) p.2.1))) f fun _ => rfl]
  rw [Fintype.sum_prod_type]
  refine Finset.sum_congr rfl fun p _ => ?_
  rw [Fintype.sum_prod_type]
  refine Finset.sum_congr rfl fun o _ => ?_
  rw [Fin.sum_univ_two]
  rfl

/-- What a device holds once the exchange is over sums to the statistic over all columns of all devices. -/
theorem W2_sum (h : Fin 2) (c : Dev nD) (q : Fin 4) (l : Fin 1024) :
    ∑ p : Fin 4, (W2 m h c : S4x4x1024.Idx → EReal) (ix3 p q l) = ∑ d, share m q (row h l) d := by
  rw [← mesh_sum (share m q (row h l)) c]
  exact Finset.sum_congr rfl fun p _ => V2_at m h (zd c p) _

/-- The half of the result at an index. -/
theorem half_at (h : Fin 2) (a b : FVec Ideal S2x512 .f32) (c : Dev nD) (r : Fin 2) (l : Fin 1024) (j : Fin 512) :
    outHalf m h a b c (ix3 r l j)
      = (xe m c (ix3 r (row h l) j) - Ideal.div (∑ d, share m ⟨r.val, by omega⟩ (row h l) d) (Ideal.ofBits .f32 0x46800000#32))
        * Ideal.rsqrt (Ideal.div (∑ d, share m ⟨2 + r.val, by omega⟩ (row h l) d) (Ideal.ofBits .f32 0x46800000#32)
            - Ideal.div (∑ d, share m ⟨r.val, by omega⟩ (row h l) d) (Ideal.ofBits .f32 0x46800000#32)
              * Ideal.div (∑ d, share m ⟨r.val, by omega⟩ (row h l) d) (Ideal.ofBits .f32 0x46800000#32)
            + Ideal.ofBits .f32 0x3727C5AC#32) * b (ix2 r j) + a (ix2 r j) := by
  unfold outHalf
  rw [pay19_at, pay17_at, pay18_at, W2_sum, W2_sum]
  have e : xhalf m h c (ix3 r l j) = xe m c (ix3 r (row h l) j) := by
    unfold xhalf xe
    congr 1
    funext i
    match i with
    | 0 => exact Fin.ext (by show 0 + 1 * r.val = r.val; omega)
    | 1 => exact Fin.ext (by show 1024 * h.val + 1 * l.val = 1024 * h.val + l.val; omega)
    | 2 => exact Fin.ext (by show 0 + 1 * j.val = j.val; omega)
  rw [e]

end Cert.KernelIdeal.Stats
end
-- ==== Proof.Normal.lean ====
/-
Layer normalization over the extended reals: with every entry real, scaling by the inverse root of
`E[y²] − E[y]²` is dividing by the root of the mean squared distance from the mean.
-/
module

public import Idealize.ShloMosaic.PureOps.Ideal
public import Idealize.ShloMosaic.PureOps.Ideal.Laws
public import Idealize.ShloMosaic.Lib.IdealHost

@[expose] public section

noncomputable section

namespace Cert.Normal

open Idealize.ShloMosaic

/-- A sum of reals, read in the extended reals, is the real sum. -/
theorem sum_coe {ι : Type} (s : Finset ι) (f : ι → ℝ) : ∑ i ∈ s, (f i : EReal) = ((∑ i ∈ s, f i : ℝ) : EReal) :=
  (map_sum (⟨⟨fun x : ℝ => (x : EReal), EReal.coe_zero⟩, EReal.coe_add⟩ : ℝ →+ EReal) f s).symm

/-- A real over a real that is not zero. -/
theorem div_real {a b : ℝ} (h : b ≠ 0) : Ideal.div (a : EReal) (b : EReal) = ((a / b : ℝ) : EReal) := by
  rw [Ideal.div_coe h, ← EReal.coe_mul, mul_one_div]

/-- The mean squared distance from the mean is the mean square less the squared mean. -/
theorem variance {ι : Type} [Fintype ι] (y : ι → ℝ) (n : ℝ) (hn : n ≠ 0) (hc : (Fintype.card ι : ℝ) = n) :
    (∑ i, (y i - (∑ j, y j) / n) * (y i - (∑ j, y j) / n)) / n
      = (∑ i, y i * y i) / n - (∑ j, y j) / n * ((∑ j, y j) / n) := by
  have e : ∀ i, (y i - (∑ j, y j) / n) * (y i - (∑ j, y j) / n)
      = y i * y i - 2 * ((∑ j, y j) / n) * y i + (∑ j, y j) / n * ((∑ j, y j) / n) := fun i => by ring
  simp only [e]
  rw [Finset.sum_add_distrib, Finset.sum_sub_distrib, ← Finset.mul_sum, Finset.sum_const, Finset.card_univ, nsmul_eq_mul, hc]
  field_simp
  ring

/-- The root of a positive real. -/
theorem sqrt_real {v : ℝ} (h : 0 < v) : Ideal.sqrt (v : EReal) = ((Real.sqrt v : ℝ) : EReal) := by
  show (if v < 0 then (⊥ : EReal) else _) = _
  rw [if_neg (not_lt.mpr h.le)]

/-- The inverse root of a positive real. -/
theorem rsqrt_real {v : ℝ} (h : 0 < v) : Ideal.rsqrt (v : EReal) = (((Real.sqrt v)⁻¹ : ℝ) : EReal) := by
  rw [Ideal.rsqrt_coe, if_neg (not_lt.mpr h.le), if_neg h.ne']

/-- The two forms of the normalized entry. -/
theorem normalize {ι : Type} [Fintype ι] (y : ι → ℝ) (n ε : ℝ) (hn : 0 < n) (hc : (Fintype.card ι : ℝ) = n) (hε : 0 < ε) (i : ι) :
    ((y i : EReal) - Ideal.div (∑ j, (y j : EReal)) (n : EReal))
        * Ideal.rsqrt (Ideal.div (∑ j, (y j : EReal) * (y j : EReal)) (n : EReal)
            - Ideal.div (∑ j, (y j : EReal)) (n : EReal) * Ideal.div (∑ j, (y j : EReal)) (n : EReal) + (ε : EReal))
      = Ideal.div ((y i : EReal) - Ideal.div (∑ j, (y j : EReal)) (n : EReal))
          (Ideal.sqrt (Ideal.div (∑ j, ((y j : EReal) - Ideal.div (∑ k, (y k : EReal)) (n : EReal))
              * ((y j : EReal) - Ideal.div (∑ k, (y k : EReal)) (n : EReal))) (n : EReal) + (ε : EReal))) := by
  have hv : 0 ≤ (∑ i, (y i - (∑ j, y j) / n) * (y i - (∑ j, y j) / n)) / n :=
    div_nonneg (Finset.sum_nonneg fun i _ => mul_self_nonneg _) hn.le
  have hp := add_pos_of_nonneg_of_pos hv hε
  have hs : 0 < Real.sqrt ((∑ i, (y i - (∑ j, y j) / n) * (y i - (∑ j, y j) / n)) / n + ε) := Real.sqrt_pos.mpr hp
  simp only [sum_coe, div_real hn.ne', ← EReal.coe_mul, ← EReal.coe_sub, ← EReal.coe_add]
  rw [← variance y n hn.ne' hc, rsqrt_real hp, sqrt_real hp, div_real hs.ne', ← EReal.coe_mul, div_eq_mul_inv _ (Real.sqrt _)]

/-- The count of entries in a row, as the programs write it. -/
theorem count_bits : Ideal.ofBits .f32 0x46800000#32 = ((16384 : ℝ) : EReal) := by
  simp [Ideal.ofBits, Ideal.ieee, -EReal.coe_mul]; norm_num

/-- The small addend is a positive real. -/
theorem eps_bits : ∃ ε : ℝ, 0 < ε ∧ Ideal.ofBits .f32 0x3727C5AC#32 = (ε : EReal) := by
  refine ⟨10995116 * (2 : ℝ) ^ (-40 : ℤ), by positivity, ?_⟩
  simp [Ideal.ofBits, Ideal.ieee, -EReal.coe_mul]

/-- The word of the bound in the precondition is infinity. -/
theorem inf_bits : Ideal.ofBits .f32 0x7F800000#32 = ⊤ := by
  simp [Ideal.ofBits, Ideal.ieee]

end Cert.Normal

end
-- ==== Proof.Plain.lean ====
/-
The reference at an index of its result.
-/
module

public import proofs.«01_k».proof.Proof.Gen.ReferenceIdeal.Run
public import proofs.«01_k».proof.Proof.Normal
public import Idealize.ShloMosaic.Lib.Pointwise

@[expose] public section

noncomputable section

namespace Cert.ReferenceIdeal.Plain

open Cert.ReferenceIdeal Cert.ReferenceIdeal.Gen
open Idealize.ShloMosaic

variable (x : FVec Ideal S2x2048x16384 .f32) (t : FVec Ideal S2x128 .bf16) (ws wh : FVec Ideal S128x16384 .bf16)

/-- A row's mean, along the row, -/
def mean : FVec Ideal S2x2048x16384 .f32 :=
  broadcastInDim S2x2048x16384 ![0, 1, 2] bcast_S2x2048x1_S2x2048x16384_0_1_2
    (Host.divf (broadcastInDim S2x2048x1 ![0, 1] bcast_S2x2048_S2x2048x1_0_1
        (Host.reduceAdd x (constant S_ .f32 0x00000000#32) reducesTo_S2x2048x16384_S2x2048_d2 h_S_))
      (broadcastInDim S2x2048x1 ![] bcast_S_S2x2048x1 (constant S_ .f32 0x46800000#32)))

/-- the number of entries its variance divides by, -/
def count : FVec Ideal S_ .f32 := subf (constant S_ .f32 0x46800000#32) (sitofp .f32 (constantI S_ 32 0#32))

/-- its variance, -/
def var : FVec Ideal S2x2048x1 .f32 :=
  select (broadcastInDim S2x2048x1 ![] bcast_S_S2x2048x1 (cmpf .ogt count (constant S_ .f32 0x00000000#32)))
    (Host.divf (broadcastInDim S2x2048x1 ![0, 1] bcast_S2x2048_S2x2048x1_0_1
        (Host.reduceAdd (mulf (subf x (mean x)) (subf x (mean x))) (constant S_ .f32 0x00000000#32) reducesTo_S2x2048x16384_S2x2048_d2 h_S_))
      (broadcastInDim S2x2048x1 ![] bcast_S_S2x2048x1 count))
    (broadcastInDim S2x2048x1 ![] bcast_S_S2x2048x1 (id (constant S_ .f32 0x7FC00000#32)))

/-- and a weight's row for each batch entry. -/
def proj (w : FVec Ideal S128x16384 .bf16) : FVec Ideal S2x1x16384 .f32 :=
  broadcastInDim S2x1x16384 ![0, 2] bcast_S2x16384_S2x1x16384_0_2
    (Host.dotGeneral dot_S2x128_S128x16384_S2x16384_1_0_0_1_n_n none (extf .f32 t bitsLt_bf16_f32) (extf .f32 w bitsLt_bf16_f32))

/-- The reference's result. -/
def result : FVec Ideal S2x2048x16384 .bf16 :=
  truncf .bf16 (addf (mulf (Host.divf (subf x (mean x)) (broadcastInDim S2x2048x16384 ![0, 1, 2] bcast_S2x2048x1_S2x2048x16384_0_1_2
        (Host.sqrt (addf (var x) (broadcastInDim S2x2048x1 ![] bcast_S_S2x2048x1 (constant S_ .f32 0x3727C5AC#32))))))
      (broadcastInDim S2x2048x16384 ![0, 1, 2] bcast_S2x1x16384_S2x2048x16384_0_1_2
        (addf (broadcastInDim S2x1x16384 ![] bcast_S_S2x1x16384 (constant S_ .f32 0x3F800000#32)) (proj t ws))))
    (broadcastInDim S2x2048x16384 ![0, 1, 2] bcast_S2x1x16384_S2x2048x16384_0_1_2 (proj t wh))) bitsLt_bf16_f32

/-- A row's mean is its sum over the count, -/
theorem mean_at (b : Fin 2) (s : Fin 2048) (l : Fin 16384) :
    mean x (ix3 b s l) = Ideal.div (∑ k : Fin 16384, x (ix3 b s k)) ((16384 : ℝ) : EReal) := by
  rw [← Normal.count_bits]
  pointwise [mean]

/-- the count is the row's length, -/
theorem count_at (i : S_.Idx) : count i = ((16384 : ℝ) : EReal) := by
  rw [← Normal.count_bits]
  pointwise [count]
  have e : (FloatOps.sitofp .f32 0#32 : Ideal .f32) = (0 : EReal) := by
    show (((0#32 : BitVec 32).toInt : ℝ) : EReal) = 0
    simp
  rw [e, sub_zero]

/-- its variance the mean squared distance from the mean, -/
theorem var_at (b : Fin 2) (s : Fin 2048) :
    var x (ix3 b s 0) = Ideal.div (∑ k : Fin 16384, (x (ix3 b s k) - mean x (ix3 b s k)) * (x (ix3 b s k) - mean x (ix3 b s k))) ((16384 : ℝ) : EReal) := by
  pointwise [var, count_at]
  exact if_pos (by exact_mod_cast (by norm_num : (0 : ℝ) < 16384))

/-- and an entry of the result is the entry less the mean, over the root, scaled and shifted. -/
theorem result_at (b : Fin 2) (s : Fin 2048) (l : Fin 16384) :
    result x t ws wh (ix3 b s l)
      = Ideal.div (x (ix3 b s l) - mean x (ix3 b s l)) (Ideal.sqrt (var x (ix3 b s 0) + Ideal.ofBits .f32 0x3727C5AC#32))
        * (1 + ∑ k : Fin 128, t (ix2 b k) * ws (ix2 k l)) + ∑ k : Fin 128, t (ix2 b k) * wh (ix2 k l) := by
  pointwise [result, proj]

end Cert.ReferenceIdeal.Plain

end
-- ==== Proof.Value.lean ====
/-
The result at exact values: the reference's, block by block.
-/
module

public import proofs.«01_k».proof.Proof.Mesh
public import proofs.«01_k».proof.Proof.Plain
public import Idealize.ShloMosaic.Lib.Layout
public import Idealize.ShloMosaic.Lib.Pipeline.ValueKit

@[expose] public section

noncomputable section

namespace Cert.KernelIdeal.Stats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The shares of a row summed -/

section Whole

variable (m : (ℓ : Loc nD τ sig) → Buf (Elt Ideal) ℓ) (X : (⟨3, ![2, 2048, 16384]⟩ : Shape).Idx → EReal)

/-- Each device's block of `x` is its columns of `X`. -/
def Cut : Prop := ∀ c : Dev nD, xe m c = Layout.block ⟨3, ![2, 2048, 512]⟩ ⟨3, ![2, 2048, 16384]⟩ 2 32 c X

/-- The column of the whole that a device's column `j` is. -/
def col (c : Dev nD) (j : Fin 512) : Fin 16384 := ⟨c.val * 512 + j.val, by have : c.val < 32 := c.isLt; omega⟩

variable {m X}

/-- So an entry of a block is the entry of the whole in the column that it stands for. -/
theorem Cut.at (hX : Cut m X) (c : Dev nD) (r : Fin 2) (s : Fin 2048) (j : Fin 512) : xe m c (ix3 r s j) = X (ix3 r s (col c j)) := by
  rw [hX c, Layout.block_apply]
  congr 1
  funext a
  match a with
  | 0 => rfl
  | 1 => rfl
  | 2 => rfl

/-- If every device's entries are reals, all entries are. -/
theorem Cut.real (hX : Cut m X) (h : ∀ c k, xe m c k = (((xe m c k).toReal : ℝ) : EReal)) (k : (⟨3, ![2, 2048, 16384]⟩ : Shape).Idx) :
    X k = (((X k).toReal : ℝ) : EReal) := by
  have hk : (k 2).val < 16384 := (k 2).isLt
  have e : ix3 (n0 := 2) (n1 := 2048) (k 0) (k 1) (col ⟨(k 2).val / 512, by show _ < 32; omega⟩ ⟨(k 2).val % 512, Nat.mod_lt _ (by decide)⟩) = k := by
    refine Eq.trans ?_ (ix3_eta k)
    congr 1
    exact Fin.ext (Nat.div_add_mod' _ _)
  have b := (hX.at ⟨(k 2).val / 512, by show _ < 32; omega⟩ (k 0) (k 1) ⟨(k 2).val % 512, Nat.mod_lt _ (by decide)⟩).trans (congrArg X e)
  exact (b.symm.trans (h _ _)).trans (congrArg (fun v : EReal => ((v.toReal : ℝ) : EReal)) b)

/-- All devices' sums of a row are the row's sum, -/
theorem Cut.sum (hX : Cut m X) (r : Fin 2) (s : Fin 2048) : ∑ d, share m ⟨r.val, by omega⟩ s d = ∑ k : Fin 16384, X (ix3 r s k) := by
  rw [Fin.sum_univ_tiles 32 512 rfl]
  refine Finset.sum_congr rfl fun d _ => ?_
  unfold share
  rw [dif_pos r.isLt]
  exact Finset.sum_congr rfl fun j _ => hX.at d r s j
/-- and their sums of squares the sum of its squares. -/
theorem Cut.square (hX : Cut m X) (r : Fin 2) (s : Fin 2048) :
    ∑ d, share m ⟨2 + r.val, by omega⟩ s d = ∑ k : Fin 16384, X (ix3 r s k) * X (ix3 r s k) := by
  rw [Fin.sum_univ_tiles 32 512 rfl]
  refine Finset.sum_congr rfl fun d _ => ?_
  unfold share
  rw [dif_neg (by show ¬ 2 + r.val < 2; omega)]
  refine Finset.sum_congr rfl fun j _ => ?_
  have e : (⟨(⟨2 + r.val, by omega⟩ : Fin 4).val - 2, by omega⟩ : Fin 2) = r := Fin.ext (by show 2 + r.val - 2 = r.val; omega)
  rw [e, hX.at d r s j]
  rfl

/-- A device's half of the result is the reference's at that half's rows and the device's columns. -/
theorem Cut.half (hX : Cut m X) (hr : ∀ k, X k = (((X k).toReal : ℝ) : EReal)) (h : Fin 2) (c : Dev nD)
    (t : FVec Ideal S2x128 .bf16) (ws wh : FVec Ideal S128x512 .bf16) (WS WH : FVec Ideal ⟨2, ![128, 16384]⟩ .bf16)
    (hs : ws = Layout.block ⟨2, ![128, 512]⟩ ⟨2, ![128, 16384]⟩ 1 32 c WS)
    (hh : wh = Layout.block ⟨2, ![128, 512]⟩ ⟨2, ![128, 16384]⟩ 1 32 c WH) (r : Fin 2) (l : Fin 1024) (j : Fin 512) :
    outHalf m h (k0_pay2 t wh) (k0_pay3 t ws) c (ix3 r l j) = Cert.ReferenceIdeal.Plain.result X t WS WH (ix3 r (row h l) (col c j)) := by
  obtain ⟨ε, hε, eε⟩ := Normal.eps_bits
  have w : ∀ (W : FVec Ideal ⟨2, ![128, 16384]⟩ .bf16) (k : Fin 128),
      Layout.block ⟨2, ![128, 512]⟩ ⟨2, ![128, 16384]⟩ 1 32 c W (by decide) (ix2 k j) = W (ix2 k (col c j)) := fun W k => by
    rw [Layout.block_apply]
    congr 1
    funext a
    match a with
    | 0 => rfl
    | 1 => rfl
  have n := Normal.normalize (fun k : Fin 16384 => (X (ix3 r (row h l) k)).toReal) 16384 ε (by norm_num) (by simp) hε (col c j)
  simp only [← hr] at n
  rw [half_at, Cert.ReferenceIdeal.Plain.result_at, Cert.ReferenceIdeal.Plain.var_at, pay2_at, pay3_at, hX.sum, hX.square, hX.at, hs, hh]
  simp only [Cert.ReferenceIdeal.Plain.mean_at, w]
  rw [eε, Normal.count_bits, n]

end Whole

/-! ## The array after the run -/

section After

variable (m : (ℓ : Loc nD τ sig) → Buf (Elt Ideal) ℓ) (ρ : Dev nD → PrngReg)

/-- The first staged operand is the embedding's array, -/
theorem stg0_eq (c : Dev nD) : stg0 m ρ c = m ((c : Thread nD τ).loc main_arg1) := by
  have e0 : win0_0.index (0 : Fin 1) 0 = 0 := by decide +kernel
  have e1 : win0_0.index (0 : Fin 1) 1 = 0 := by decide +kernel
  funext k
  unfold stg0
  blk_ext [e0, e1]

/-- the second the scales' weight, -/
theorem stg1_eq (c : Dev nD) : stg1 m ρ c = m ((c : Thread nD τ).loc main_arg2) := by
  have e0 : win0_1.index (0 : Fin 1) 0 = 0 := by decide +kernel
  have e1 : win0_1.index (0 : Fin 1) 1 = 0 := by decide +kernel
  funext k
  unfold stg1
  blk_ext [e0, e1]

/-- the third the shifts' weight, -/
theorem stg2_eq (c : Dev nD) : stg2 m ρ c = m ((c : Thread nD τ).loc main_arg3) := by
  have e0 : win0_2.index (0 : Fin 1) 0 = 0 := by decide +kernel
  have e1 : win0_2.index (0 : Fin 1) 1 = 0 := by decide +kernel
  funext k
  unfold stg2
  blk_ext [e0, e1]
/-- and the result array ends at what the body left. -/
theorem arr_after (c : Dev nD) : (dats m ρ 0 c).arrAt (3 : Fin 4) cfg0.N = outAt m ρ c := by
  refine (dats m ρ 0 c).arrAt_eq_of_after_last (3 : Fin 4) t0_0 (by decide +kernel) (outAt m ρ c) (fun j => ?_)
  rfl

/-- The number of a row, in its half. -/
theorem row_val (h : Fin 2) (l : Fin 1024) : (row h l).val = 1024 * h.val + l.val := rfl

/-- So every device ends with its columns of the reference's result. -/
theorem out_eq (X : (⟨3, ![2, 2048, 16384]⟩ : Shape).Idx → EReal) (t : FVec Ideal S2x128 .bf16) (WS WH : FVec Ideal ⟨2, ![128, 16384]⟩ .bf16)
    (hX : Cut m X) (hr : ∀ k, X k = (((X k).toReal : ℝ) : EReal)) (c : Dev nD) (ht : m ((c : Thread nD τ).loc main_arg1) = t)
    (hs : m ((c : Thread nD τ).loc main_arg2) = Layout.block ⟨2, ![128, 512]⟩ ⟨2, ![128, 16384]⟩ 1 32 c WS)
    (hh : m ((c : Thread nD τ).loc main_arg3) = Layout.block ⟨2, ![128, 512]⟩ ⟨2, ![128, 16384]⟩ 1 32 c WH) :
    outAt m ρ c = Layout.block ⟨3, ![2, 2048, 512]⟩ ⟨3, ![2, 2048, 16384]⟩ 2 32 c (Cert.ReferenceIdeal.Plain.result X t WS WH) := by
  have half : ∀ (h : Fin 2) (r : Fin 2) (l : Fin 1024) (j : Fin 512),
      outH m ρ h c (ix3 r l j) = Cert.ReferenceIdeal.Plain.result X t WS WH (ix3 r (row h l) (col c j)) := fun h r l j => by
    unfold outH
    rw [stg0_eq, stg1_eq, stg2_eq, ht]
    exact hX.half hr h c t _ _ WS WH hs hh r l j
  have place : ∀ (k : S2x2048x512.Idx) (h : Fin 2) (l : Fin 1024), (row h l).val = (k 1).val →
      Cert.ReferenceIdeal.Plain.result X t WS WH (ix3 (k 0) (row h l) (col c (k 2)))
        = Layout.block ⟨3, ![2, 2048, 512]⟩ ⟨3, ![2, 2048, 16384]⟩ 2 32 c (Cert.ReferenceIdeal.Plain.result X t WS WH) (by decide) k := fun k h l e => by
    rw [Layout.block_apply]
    congr 1
    funext a
    match a with
    | 0 => rfl
    | 1 => exact Fin.ext e
    | 2 => rfl
  have ix : ∀ (a : Fin 2) (b : Fin 1024) (d : Fin 512), ((fun | 0 => a | 1 => b | 2 => d) : S2x1024x512.Idx) = ix3 a b d := fun a b d => by
    funext i
    match i with
    | 0 => rfl
    | 1 => rfl
    | 2 => rfl
  funext k
  have hk2 : (k 1).val < 2048 := (k 1).isLt
  unfold outAt
  split
  · next hk =>
    exact (congrArg (outH m ρ 0 c) (ix (k 0) ⟨(k 1).val, hk⟩ (k 2))).trans ((half 0 (k 0) ⟨(k 1).val, hk⟩ (k 2)).trans
      (place k 0 ⟨(k 1).val, hk⟩ (by rw [row_val, Fin.val_zero, Nat.mul_zero, Nat.zero_add])))
  · next hk =>
    have hb : (k 1).val - 1024 < 1024 := by omega
    have hv : (row 1 ⟨(k 1).val - 1024, hb⟩).val = (k 1).val := by
      rw [row_val, Fin.val_one, Nat.mul_one]
      exact Nat.add_sub_cancel' (Nat.le_of_not_lt hk)
    exact (congrArg (outH m ρ 1 c) (ix (k 0) ⟨(k 1).val - 1024, hb⟩ (k 2))).trans ((half 1 (k 0) ⟨(k 1).val - 1024, hb⟩ (k 2)).trans
      (place k 1 ⟨(k 1).val - 1024, hb⟩ hv))

end After

end Cert.KernelIdeal.Stats
end
-- ==== Proof.Finite.lean ====
/-
The precondition read: every entry of a device's block of `x` is a real.
-/
module

public import proofs.«01_k».proof.Pre_finite_KernelIdeal
public import proofs.«01_k».proof.Pre_finite_ReferenceIdeal
public import proofs.«01_k».proof.Proof.Normal
public import Idealize.ShloMosaic.Lib.ReduceAll
public import Idealize.ShloMosaic.Lib.Pointwise

@[expose] public section

noncomputable section

open Idealize.ShloMosaic

namespace Cert.Pre_finite_KernelIdeal

/-- The side conditions of the precondition at one device's shapes, -/
theorem facts : Facts := ⟨by decide, by decide, by decide⟩

end Cert.Pre_finite_KernelIdeal

namespace Cert.Pre_finite_ReferenceIdeal

/-- and at the whole arrays'. -/
theorem facts : Facts := ⟨by decide, by decide, by decide⟩

end Cert.Pre_finite_ReferenceIdeal

namespace Cert.Pre_finite_KernelIdeal

/-- An extended real of absolute value below infinity is a real. -/
theorem real_of_abs {v : EReal} (h : max v (-v) < ⊤) : v = ((v.toReal : ℝ) : EReal) := by
  refine (EReal.coe_toReal ?_ ?_).symm
  · rintro rfl
    exact absurd h (by simp)
  · rintro rfl
    exact absurd h (by simp)

/-- The precondition holds only of real entries. -/
theorem real_of_fn [Facts] (x : FVec Ideal S2x2048x512 .f32) (t : FVec Ideal S2x128 .bf16) (ws wh : FVec Ideal S128x512 .bf16)
    (h : fn (F := Ideal) x t ws wh = fun _ => 1#1) (i : S2x2048x512.Idx) : (x i : EReal) = (((x i : EReal).toReal : ℝ) : EReal) := by
  have : Subsingleton S_.Idx := ⟨fun a b => funext fun k => k.elim0⟩
  have e := Host.reduce_andi_all _ _ _ _ _ (congrFun h ix0) i
  apply real_of_abs
  rw [← Normal.inf_bits]
  pointwise at e
  by_contra n
  rw [show decide (FloatOps.absf (x i) < Ideal.ofBits .f32 0x7F800000#32) = false from decide_eq_false n] at e
  exact absurd e (by decide)

end Cert.Pre_finite_KernelIdeal

end
-- ==== Proof.Algebraic.lean ====
/-
The value claim: at exact values, on real entries of `x`, the kernel on its mesh computes the reference.
-/
module

public import proofs.«01_k».proof.Defs
public import proofs.«01_k».proof.Proof.Frames
public import proofs.«01_k».proof.Proof.Value
public import proofs.«01_k».proof.Proof.Finite

@[expose] public section

noncomputable section

namespace Cert.Proof

open Idealize.ShloMosaic Idealize.SL.Sem

/-- Every device ends with its columns of the reference's result. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.facts) := fun m g m' g' hp hm => by
  have hX : Cert.KernelIdeal.Stats.Cut m (m' (((0 : Dev Cert.ReferenceIdeal.nD).tc : Thread Cert.ReferenceIdeal.nD Cert.ReferenceIdeal.τ).loc Cert.ReferenceIdeal.main_arg0)) :=
    fun c => (hm c).1
  have hr := hX.real fun c k => @Cert.Pre_finite_KernelIdeal.real_of_fn Cert.Pre_finite_KernelIdeal.facts _ _ _ _ (hp c) k
  refine ⟨Cert.ReferenceIdeal.Plain.result _ _ _ _, ?_,
    (θ_run Cert.ReferenceIdeal.defs _ _).mono (fun _ h => h 0) (Cert.ReferenceIdeal.Value.run m' g')⟩
  refine (θ_run (Cert.KernelIdeal.defs (F := Ideal)) _ _).mono (fun r h c => ⟨?_, Cert.KernelIdeal.Stats.Done.args m g h c⟩) (Cert.KernelIdeal.Stats.run_main m g)
  refine ((h.1 c).1 (3 : Fin 4)).trans ((Cert.KernelIdeal.Stats.arr_after m g c).trans ?_)
  exact Cert.KernelIdeal.Stats.out_eq m g _ _ _ _ hX hr c (hm c).2.1 (hm c).2.2.1 (hm c).2.2.2

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims, each from its module. -/
theorem claim : Cert.Claim := ⟨Cert.Kernel.Gen.facts, Cert.KernelIdeal.Gen.facts, Cert.ReferenceIdeal.Gen.facts,
  Cert.Pre_finite_KernelIdeal.facts, Cert.Pre_finite_ReferenceIdeal.facts, frame_kernel, frame_kernelIdeal,
  fun m ρ _ => frame_kernelIdeal m ρ trivial, frame_reference, fun m ρ _ => frame_reference m ρ trivial, trivial, algebraic⟩

end Cert.Proof

end
